-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def algebraic_KernelIdeal_ReferenceIdeal_on_heads [hKernelIdeal : Cert.KernelIdeal.Facts] [hReferenceIdeal : Cert.ReferenceIdeal.Facts] [hOn_heads : Cert.On_heads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1, 384, 384]⟩ : Shape).Idx, (Cert.On_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 i = 1#1 → r.2.mem ((c.tc : Thread Cert.KernelIdeal.nD Cert.KernelIdeal.τ).loc Cert.KernelIdeal.main_v22_0) i = v0 c i)
          ∧ (∀ i : (⟨4, ![1, 384, 384, 128]⟩ : Shape).Idx, (Cert.On_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 i = 1#1 → r.2.mem ((c.tc : Thread Cert.KernelIdeal.nD Cert.KernelIdeal.τ).loc Cert.KernelIdeal.main_v24) i = v1 c i)
          ∧ (∀ i : (⟨2, ![1, 384]⟩ : Shape).Idx, (Cert.On_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 i = 1#1 → r.2.mem ((c.tc : Thread Cert.KernelIdeal.nD Cert.KernelIdeal.τ).loc Cert.KernelIdeal.main_v25) i = v2 c i)
          ∧ (∀ i : (⟨2, ![1, 384]⟩ : Shape).Idx, (Cert.On_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2 i = 1#1 → r.2.mem ((c.tc : Thread Cert.KernelIdeal.nD Cert.KernelIdeal.τ).loc Cert.KernelIdeal.main_v26) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1, 384, 384]⟩ : Shape).Idx, (Cert.On_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 i = 1#1 → r.2.mem ((c.tc : Thread Cert.ReferenceIdeal.nD Cert.ReferenceIdeal.τ).loc Cert.ReferenceIdeal.main_v69) i = v0 c i)
          ∧ (∀ i : (⟨4, ![1, 384, 384, 128]⟩ : Shape).Idx, (Cert.On_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 i = 1#1 → r.2.mem ((c.tc : Thread Cert.ReferenceIdeal.nD Cert.ReferenceIdeal.τ).loc Cert.ReferenceIdeal.main_v137) i = v1 c i)
          ∧ (∀ i : (⟨2, ![1, 384]⟩ : Shape).Idx, (Cert.On_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 i = 1#1 → r.2.mem ((c.tc : Thread Cert.ReferenceIdeal.nD Cert.ReferenceIdeal.τ).loc Cert.ReferenceIdeal.main_v32) i = v2 c i)
          ∧ (∀ i : (⟨2, ![1, 384]⟩ : Shape).Idx, (Cert.On_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2 i = 1#1 → r.2.mem ((c.tc : Thread Cert.ReferenceIdeal.nD Cert.ReferenceIdeal.τ).loc Cert.ReferenceIdeal.main_v42) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hOn_heads : Cert.On_heads.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ algebraic_KernelIdeal_ReferenceIdeal_on_heads (hKernelIdeal := hKernelIdeal) (hReferenceIdeal := hReferenceIdeal) (hOn_heads := hOn_heads)
-- ==== On_heads.lean ====
abbrev S1x384x640 : Shape := ⟨3, ![1, 384, 640]⟩
abbrev S640x320 : Shape := ⟨2, ![640, 320]⟩
abbrev S320 : Shape := ⟨1, ![320]⟩
abbrev S320x160 : Shape := ⟨2, ![320, 160]⟩
abbrev S160 : Shape := ⟨1, ![160]⟩
abbrev S160x1 : Shape := ⟨2, ![160, 1]⟩
abbrev S1 : Shape := ⟨1, ![1]⟩
abbrev S640x512 : Shape := ⟨2, ![640, 512]⟩
abbrev S512 : Shape := ⟨1, ![512]⟩
abbrev S512x384 : Shape := ⟨2, ![512, 384]⟩
abbrev S384 : Shape := ⟨1, ![384]⟩
abbrev S1284x512 : Shape := ⟨2, ![1284, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S1x384x384 : Shape := ⟨3, ![1, 384, 384]⟩
abbrev S1x384x384x128 : Shape := ⟨4, ![1, 384, 384, 128]⟩
abbrev S1x384 : Shape := ⟨2, ![1, 384]⟩

class Facts : Prop where
  bcast_S_S1x384x384 : S_.BroadcastsInDim S1x384x384 (![] : Fin 0 → Fin S1x384x384.rank)
  bcast_S_S1x384x384x128 : S_.BroadcastsInDim S1x384x384x128 (![] : Fin 0 → Fin S1x384x384x128.rank)
  bcast_S_S1x384 : S_.BroadcastsInDim S1x384 (![] : Fin 0 → Fin S1x384.rank)

variable [Facts]

def fn {F : FTy → Type} [FloatOps F] (main_arg0 : FVec F S1x384x640 .f32) (main_arg1 : FVec F S640x320 .f32) (main_arg2 : FVec F S320 .f32) (main_arg3 : FVec F S320 .f32) (main_arg4 : FVec F S320 .f32) (main_arg5 : FVec F S320x160 .f32) (main_arg6 : FVec F S160 .f32) (main_arg7 : FVec F S160x1 .f32) (main_arg8 : FVec F S1 .f32) (main_arg9 : FVec F S320x160 .f32) (main_arg10 : FVec F S160 .f32) (main_arg11 : FVec F S160x1 .f32) (main_arg12 : FVec F S1 .f32) (main_arg13 : FVec F S640x512 .f32) (main_arg14 : FVec F S512 .f32) (main_arg15 : FVec F S512 .f32) (main_arg16 : FVec F S512 .f32) (main_arg17 : FVec F S512x384 .f32) (main_arg18 : FVec F S384 .f32) (main_arg19 : FVec F S1284x512 .f32) (main_arg20 : FVec F S512 .f32) (main_arg21 : FVec F S512 .f32) (main_arg22 : FVec F S512 .f32) (main_arg23 : FVec F S512x256 .f32) (main_arg24 : FVec F S256 .f32) (main_arg25 : FVec F S256x128 .f32) (main_arg26 : FVec F S128 .f32) : IVec S1x384x384 1 × IVec S1x384x384x128 1 × IVec S1x384 1 × IVec S1x384 1 :=
  let main_c : IVec S_ 1 := constantI S_ 1 1#1
  let main_v0 : IVec S1x384x384 1 := broadcastInDim S1x384x384 ![] bcast_S_S1x384x384 main_c
  let main_c_0 : IVec S_ 1 := constantI S_ 1 0#1
  let main_v1 : IVec S1x384x384x128 1 := broadcastInDim S1x384x384x128 ![] bcast_S_S1x384x384x128 main_c_0
  let main_c_1 : IVec S_ 1 := constantI S_ 1 1#1
  let main_v2 : IVec S1x384 1 := broadcastInDim S1x384 ![] bcast_S_S1x384 main_c_1
  let main_c_2 : IVec S_ 1 := constantI S_ 1 1#1
  let main_v3 : IVec S1x384 1 := broadcastInDim S1x384 ![] bcast_S_S1x384 main_c_2
  (main_v0, main_v1, main_v2, main_v3)
-- ==== Pre_finite_inputs.lean ====
abbrev S1x384x640 : Shape := ⟨3, ![1, 384, 640]⟩
abbrev S640x320 : Shape := ⟨2, ![640, 320]⟩
abbrev S320 : Shape := ⟨1, ![320]⟩
abbrev S320x160 : Shape := ⟨2, ![320, 160]⟩
abbrev S160 : Shape := ⟨1, ![160]⟩
abbrev S160x1 : Shape := ⟨2, ![160, 1]⟩
abbrev S1 : Shape := ⟨1, ![1]⟩
abbrev S640x512 : Shape := ⟨2, ![640, 512]⟩
abbrev S512 : Shape := ⟨1, ![512]⟩
abbrev S512x384 : Shape := ⟨2, ![512, 384]⟩
abbrev S384 : Shape := ⟨1, ![384]⟩
abbrev S1284x512 : Shape := ⟨2, ![1284, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S1x384x640 : S_.BroadcastsInDim S1x384x640 (![] : Fin 0 → Fin S1x384x640.rank)
  bcast_S_S640x320 : S_.BroadcastsInDim S640x320 (![] : Fin 0 → Fin S640x320.rank)
  bcast_S_S320 : S_.BroadcastsInDim S320 (![] : Fin 0 → Fin S320.rank)
  bcast_S_S320x160 : S_.BroadcastsInDim S320x160 (![] : Fin 0 → Fin S320x160.rank)
  bcast_S_S160 : S_.BroadcastsInDim S160 (![] : Fin 0 → Fin S160.rank)
  bcast_S_S160x1 : S_.BroadcastsInDim S160x1 (![] : Fin 0 → Fin S160x1.rank)
  bcast_S_S1 : S_.BroadcastsInDim S1 (![] : Fin 0 → Fin S1.rank)
  bcast_S_S1284x512 : S_.BroadcastsInDim S1284x512 (![] : Fin 0 → Fin S1284x512.rank)
  bcast_S_S512 : S_.BroadcastsInDim S512 (![] : Fin 0 → Fin S512.rank)
  bcast_S_S512x256 : S_.BroadcastsInDim S512x256 (![] : Fin 0 → Fin S512x256.rank)

variable [Facts]

def fn_part3 {F : FTy → Type} [FloatOps F] (main_arg23 : FVec F S512x256 .f32) (main_v2 : IVec S1x384x640 1) (main_v5 : IVec S640x320 1) (main_v16 : IVec S320 1) (main_v23 : IVec S320x160 1) (main_v30 : IVec S160 1) (main_v37 : IVec S160x1 1) (main_v44 : IVec S1 1) (main_v47 : IVec S1284x512 1) (main_v54 : IVec S512 1) (main_v55 : FVec F S512 .f32) : IVec S1x384x640 1 × IVec S640x320 1 × IVec S320 1 × IVec S320x160 1 × IVec S160 1 × IVec S160x1 1 × IVec S1 1 × IVec S1284x512 1 × IVec S512 1 × IVec S512x256 1 :=
  let main_cst_15 : FVec F S_ .f32 := constant S_ .f32 0x7F800000#32
  let main_v56 : FVec F S512 .f32 := broadcastInDim S512 ![] bcast_S_S512 main_cst_15
  let main_v57 : IVec S512 1 := cmpf .olt main_v55 main_v56
  let main_v58 : IVec S512 1 := andi main_v54 main_v57
  let main_v59 : FVec F S512x256 .f32 := Host.absf main_arg23
  let main_cst_16 : FVec F S_ .f32 := constant S_ .f32 0x7F800000#32
  let main_v60 : FVec F S512x256 .f32 := broadcastInDim S512x256 ![] bcast_S_S512x256 main_cst_16
  let main_v61 : IVec S512x256 1 := cmpf .olt main_v59 main_v60
  (main_v2, main_v5, main_v16, main_v23, main_v30, main_v37, main_v44, main_v47, main_v58, main_v61)

def fn_part2 {F : FTy → Type} [FloatOps F] (main_arg8 : FVec F S1 .f32) (main_arg12 : FVec F S1 .f32) (main_arg19 : FVec F S1284x512 .f32) (main_arg20 : FVec F S512 .f32) (main_arg21 : FVec F S512 .f32) (main_arg22 : FVec F S512 .f32) (main_arg23 : FVec F S512x256 .f32) (main_v2 : IVec S1x384x640 1) (main_v5 : IVec S640x320 1) (main_v16 : IVec S320 1) (main_v23 : IVec S320x160 1) (main_v30 : IVec S160 1) (main_v33 : IVec S160x1 1) (main_v36 : IVec S160x1 1) : IVec S1x384x640 1 × IVec S640x320 1 × IVec S320 1 × IVec S320x160 1 × IVec S160 1 × IVec S160x1 1 × IVec S1 1 × IVec S1284x512 1 × IVec S512 1 × IVec S512x256 1 :=
  let main_v37 : IVec S160x1 1 := andi main_v33 main_v36
  let main_v38 : FVec F S1 .f32 := Host.absf main_arg8
  let main_cst_10 : FVec F S_ .f32 := constant S_ .f32 0x7F800000#32
  let main_v39 : FVec F S1 .f32 := broadcastInDim S1 ![] bcast_S_S1 main_cst_10
  let main_v40 : IVec S1 1 := cmpf .olt main_v38 main_v39
  let main_v41 : FVec F S1 .f32 := Host.absf main_arg12
  let main_cst_11 : FVec F S_ .f32 := constant S_ .f32 0x7F800000#32
  let main_v42 : FVec F S1 .f32 := broadcastInDim S1 ![] bcast_S_S1 main_cst_11
  let main_v43 : IVec S1 1 := cmpf .olt main_v41 main_v42
  let main_v44 : IVec S1 1 := andi main_v40 main_v43
  let main_v45 : FVec F S1284x512 .f32 := Host.absf main_arg19
  let main_cst_12 : FVec F S_ .f32 := constant S_ .f32 0x7F800000#32
  let main_v46 : FVec F S1284x512 .f32 := broadcastInDim S1284x512 ![] bcast_S_S1284x512 main_cst_12
  let main_v47 : IVec S1284x512 1 := cmpf .olt main_v45 main_v46
  let main_v48 : FVec F S512 .f32 := Host.absf main_arg20
  let main_cst_13 : FVec F S_ .f32 := constant S_ .f32 0x7F800000#32
  let main_v49 : FVec F S512 .f32 := broadcastInDim S512 ![] bcast_S_S512 main_cst_13
  let main_v50 : IVec S512 1 := cmpf .olt main_v48 main_v49
  let main_v51 : FVec F S512 .f32 := Host.absf main_arg21
  let main_cst_14 : FVec F S_ .f32 := constant S_ .f32 0x7F800000#32
  let main_v52 : FVec F S512 .f32 := broadcastInDim S512 ![] bcast_S_S512 main_cst_14
  let main_v53 : IVec S512 1 := cmpf .olt main_v51 main_v52
  let main_v54 : IVec S512 1 := andi main_v50 main_v53
  let main_v55 : FVec F S512 .f32 := Host.absf main_arg22
  fn_part3 (F := F) main_arg23 main_v2 main_v5 main_v16 main_v23 main_v30 main_v37 main_v44 main_v47 main_v54 main_v55

def fn_part1 {F : FTy → Type} [FloatOps F] (main_arg6 : FVec F S160 .f32) (main_arg7 : FVec F S160x1 .f32) (main_arg8 : FVec F S1 .f32) (main_arg9 : FVec F S320x160 .f32) (main_arg10 : FVec F S160 .f32) (main_arg11 : FVec F S160x1 .f32) (main_arg12 : FVec F S1 .f32) (main_arg19 : FVec F S1284x512 .f32) (main_arg20 : FVec F S512 .f32) (main_arg21 : FVec F S512 .f32) (main_arg22 : FVec F S512 .f32) (main_arg23 : FVec F S512x256 .f32) (main_v2 : IVec S1x384x640 1) (main_v5 : IVec S640x320 1) (main_v16 : IVec S320 1) (main_v17 : FVec F S320x160 .f32) (main_cst_4 : FVec F S_ .f32) : IVec S1x384x640 1 × IVec S640x320 1 × IVec S320 1 × IVec S320x160 1 × IVec S160 1 × IVec S160x1 1 × IVec S1 1 × IVec S1284x512 1 × IVec S512 1 × IVec S512x256 1 :=
  let main_v18 : FVec F S320x160 .f32 := broadcastInDim S320x160 ![] bcast_S_S320x160 main_cst_4
  let main_v19 : IVec S320x160 1 := cmpf .olt main_v17 main_v18
  let main_v20 : FVec F S320x160 .f32 := Host.absf main_arg9
  let main_cst_5 : FVec F S_ .f32 := constant S_ .f32 0x7F800000#32
  let main_v21 : FVec F S320x160 .f32 := broadcastInDim S320x160 ![] bcast_S_S320x160 main_cst_5
  let main_v22 : IVec S320x160 1 := cmpf .olt main_v20 main_v21
  let main_v23 : IVec S320x160 1 := andi main_v19 main_v22
  let main_v24 : FVec F S160 .f32 := Host.absf main_arg6
  let main_cst_6 : FVec F S_ .f32 := constant S_ .f32 0x7F800000#32
  let main_v25 : FVec F S160 .f32 := broadcastInDim S160 ![] bcast_S_S160 main_cst_6
  let main_v26 : IVec S160 1 := cmpf .olt main_v24 main_v25
  let main_v27 : FVec F S160 .f32 := Host.absf main_arg10
  let main_cst_7 : FVec F S_ .f32 := constant S_ .f32 0x7F800000#32
  let main_v28 : FVec F S160 .f32 := broadcastInDim S160 ![] bcast_S_S160 main_cst_7
  let main_v29 : IVec S160 1 := cmpf .olt main_v27 main_v28
  let main_v30 : IVec S160 1 := andi main_v26 main_v29
  let main_v31 : FVec F S160x1 .f32 := Host.absf main_arg7
  let main_cst_8 : FVec F S_ .f32 := constant S_ .f32 0x7F800000#32
  let main_v32 : FVec F S160x1 .f32 := broadcastInDim S160x1 ![] bcast_S_S160x1 main_cst_8
  let main_v33 : IVec S160x1 1 := cmpf .olt main_v31 main_v32
  let main_v34 : FVec F S160x1 .f32 := Host.absf main_arg11
  let main_cst_9 : FVec F S_ .f32 := constant S_ .f32 0x7F800000#32
  let main_v35 : FVec F S160x1 .f32 := broadcastInDim S160x1 ![] bcast_S_S160x1 main_cst_9
  let main_v36 : IVec S160x1 1 := cmpf .olt main_v34 main_v35
  fn_part2 (F := F) main_arg8 main_arg12 main_arg19 main_arg20 main_arg21 main_arg22 main_arg23 main_v2 main_v5 main_v16 main_v23 main_v30 main_v33 main_v36

def fn {F : FTy → Type} [FloatOps F] (main_arg0 : FVec F S1x384x640 .f32) (main_arg1 : FVec F S640x320 .f32) (main_arg2 : FVec F S320 .f32) (main_arg3 : FVec F S320 .f32) (main_arg4 : FVec F S320 .f32) (main_arg5 : FVec F S320x160 .f32) (main_arg6 : FVec F S160 .f32) (main_arg7 : FVec F S160x1 .f32) (main_arg8 : FVec F S1 .f32) (main_arg9 : FVec F S320x160 .f32) (main_arg10 : FVec F S160 .f32) (main_arg11 : FVec F S160x1 .f32) (main_arg12 : FVec F S1 .f32) (main_arg13 : FVec F S640x512 .f32) (main_arg14 : FVec F S512 .f32) (main_arg15 : FVec F S512 .f32) (main_arg16 : FVec F S512 .f32) (main_arg17 : FVec F S512x384 .f32) (main_arg18 : FVec F S384 .f32) (main_arg19 : FVec F S1284x512 .f32) (main_arg20 : FVec F S512 .f32) (main_arg21 : FVec F S512 .f32) (main_arg22 : FVec F S512 .f32) (main_arg23 : FVec F S512x256 .f32) (main_arg24 : FVec F S256 .f32) (main_arg25 : FVec F S256x128 .f32) (main_arg26 : FVec F S128 .f32) : IVec S1x384x640 1 × IVec S640x320 1 × IVec S320 1 × IVec S320x160 1 × IVec S160 1 × IVec S160x1 1 × IVec S1 1 × IVec S1284x512 1 × IVec S512 1 × IVec S512x256 1 :=
  let main_v0 : FVec F S1x384x640 .f32 := Host.absf main_arg0
  let main_cst : FVec F S_ .f32 := constant S_ .f32 0x7F800000#32
  let main_v1 : FVec F S1x384x640 .f32 := broadcastInDim S1x384x640 ![] bcast_S_S1x384x640 main_cst
  let main_v2 : IVec S1x384x640 1 := cmpf .olt main_v0 main_v1
  let main_v3 : FVec F S640x320 .f32 := Host.absf main_arg1
  let main_cst_0 : FVec F S_ .f32 := constant S_ .f32 0x7F800000#32
  let main_v4 : FVec F S640x320 .f32 := broadcastInDim S640x320 ![] bcast_S_S640x320 main_cst_0
  let main_v5 : IVec S640x320 1 := cmpf .olt main_v3 main_v4
  let main_v6 : FVec F S320 .f32 := Host.absf main_arg2
  let main_cst_1 : FVec F S_ .f32 := constant S_ .f32 0x7F800000#32
  let main_v7 : FVec F S320 .f32 := broadcastInDim S320 ![] bcast_S_S320 main_cst_1
  let main_v8 : IVec S320 1 := cmpf .olt main_v6 main_v7
  let main_v9 : FVec F S320 .f32 := Host.absf main_arg3
  let main_cst_2 : FVec F S_ .f32 := constant S_ .f32 0x7F800000#32
  let main_v10 : FVec F S320 .f32 := broadcastInDim S320 ![] bcast_S_S320 main_cst_2
  let main_v11 : IVec S320 1 := cmpf .olt main_v9 main_v10
  let main_v12 : IVec S320 1 := andi main_v8 main_v11
  let main_v13 : FVec F S320 .f32 := Host.absf main_arg4
  let main_cst_3 : FVec F S_ .f32 := constant S_ .f32 0x7F800000#32
  let main_v14 : FVec F S320 .f32 := broadcastInDim S320 ![] bcast_S_S320 main_cst_3
  let main_v15 : IVec S320 1 := cmpf .olt main_v13 main_v14
  let main_v16 : IVec S320 1 := andi main_v12 main_v15
  let main_v17 : FVec F S320x160 .f32 := Host.absf main_arg5
  let main_cst_4 : FVec F S_ .f32 := constant S_ .f32 0x7F800000#32
  fn_part1 (F := F) main_arg6 main_arg7 main_arg8 main_arg9 main_arg10 main_arg11 main_arg12 main_arg19 main_arg20 main_arg21 main_arg22 main_arg23 main_v2 main_v5 main_v16 main_v17 main_cst_4
-- ==== Kernel.lean ====
abbrev S1x384x640 : Shape := ⟨3, ![1, 384, 640]⟩
abbrev S640x320 : Shape := ⟨2, ![640, 320]⟩
abbrev S320 : Shape := ⟨1, ![320]⟩
abbrev S320x160 : Shape := ⟨2, ![320, 160]⟩
abbrev S160 : Shape := ⟨1, ![160]⟩
abbrev S160x1 : Shape := ⟨2, ![160, 1]⟩
abbrev S1 : Shape := ⟨1, ![1]⟩
abbrev S640x512 : Shape := ⟨2, ![640, 512]⟩
abbrev S512 : Shape := ⟨1, ![512]⟩
abbrev S512x384 : Shape := ⟨2, ![512, 384]⟩
abbrev S384 : Shape := ⟨1, ![384]⟩
abbrev S1284x512 : Shape := ⟨2, ![1284, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S384x640 : Shape := ⟨2, ![384, 640]⟩
abbrev S4x512 : Shape := ⟨2, ![4, 512]⟩
abbrev S_ : Shape := ⟨0, ![]⟩
abbrev S8x512 : Shape := ⟨2, ![8, 512]⟩
abbrev S1x320 : Shape := ⟨2, ![1, 320]⟩
abbrev S1x160 : Shape := ⟨2, ![1, 160]⟩
abbrev S1x1 : Shape := ⟨2, ![1, 1]⟩
abbrev S1x512 : Shape := ⟨2, ![1, 512]⟩
abbrev S1x384 : Shape := ⟨2, ![1, 384]⟩
abbrev S512x1 : Shape := ⟨2, ![512, 1]⟩
abbrev S1x256 : Shape := ⟨2, ![1, 256]⟩
abbrev S1x384x384 : Shape := ⟨3, ![1, 384, 384]⟩
abbrev S384x1 : Shape := ⟨2, ![384, 1]⟩
abbrev S384x512 : Shape := ⟨2, ![384, 512]⟩
abbrev S384x256 : Shape := ⟨2, ![384, 256]⟩
abbrev S384x320 : Shape := ⟨2, ![384, 320]⟩
abbrev S384x160 : Shape := ⟨2, ![384, 160]⟩
abbrev S384x384 : Shape := ⟨2, ![384, 384]⟩
abbrev S384x128 : Shape := ⟨2, ![384, 128]⟩
abbrev S1x128 : Shape := ⟨2, ![1, 128]⟩
abbrev S1x384x384x128 : Shape := ⟨4, ![1, 384, 384, 128]⟩
abbrev S96x512 : Shape := ⟨2, ![96, 512]⟩
abbrev S128x512 : Shape := ⟨2, ![128, 512]⟩
abbrev S128x256 : Shape := ⟨2, ![128, 256]⟩
abbrev S1x96x128x128 : Shape := ⟨4, ![1, 96, 128, 128]⟩
abbrev S128x1 : Shape := ⟨2, ![128, 1]⟩
abbrev S96x1x512 : Shape := ⟨3, ![96, 1, 512]⟩
abbrev S1x128x512 : Shape := ⟨3, ![1, 128, 512]⟩
abbrev S96x128x512 : Shape := ⟨3, ![96, 128, 512]⟩
abbrev S1x128x1 : Shape := ⟨3, ![1, 128, 1]⟩
abbrev S12288x512 : Shape := ⟨2, ![12288, 512]⟩
abbrev S12288x256 : Shape := ⟨2, ![12288, 256]⟩
abbrev S12288 : Shape := ⟨1, ![12288]⟩
abbrev S12288x1 : Shape := ⟨2, ![12288, 1]⟩
abbrev S12288x128 : Shape := ⟨2, ![12288, 128]⟩

abbrev nBuf : Space → Nat
  | .hbm => 66
  | .vmem => 55
  | .smem => 0
  | _ => 0

abbrev bufTy : (tb : Table) → Fin (tcTables nBuf tb) → BufTy
  | .hbm, ⟨0, _⟩ => ⟨S1x384x640, .f32⟩
  | .hbm, ⟨1, _⟩ => ⟨S640x320, .f32⟩
  | .hbm, ⟨2, _⟩ => ⟨S320, .f32⟩
  | .hbm, ⟨3, _⟩ => ⟨S320, .f32⟩
  | .hbm, ⟨4, _⟩ => ⟨S320, .f32⟩
  | .hbm, ⟨5, _⟩ => ⟨S320x160, .f32⟩
  | .hbm, ⟨6, _⟩ => ⟨S160, .f32⟩
  | .hbm, ⟨7, _⟩ => ⟨S160x1, .f32⟩
  | .hbm, ⟨8, _⟩ => ⟨S1, .f32⟩
  | .hbm, ⟨9, _⟩ => ⟨S320x160, .f32⟩
  | .hbm, ⟨10, _⟩ => ⟨S160, .f32⟩
  | .hbm, ⟨11, _⟩ => ⟨S160x1, .f32⟩
  | .hbm, ⟨12, _⟩ => ⟨S1, .f32⟩
  | .hbm, ⟨13, _⟩ => ⟨S640x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512x384, .f32⟩
  | .hbm, ⟨18, _⟩ => ⟨S384, .f32⟩
  | .hbm, ⟨19, _⟩ => ⟨S1284x512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512x256, .f32⟩
  | .hbm, ⟨24, _⟩ => ⟨S256, .f32⟩
  | .hbm, ⟨25, _⟩ => ⟨S256x128, .f32⟩
  | .hbm, ⟨26, _⟩ => ⟨S128, .f32⟩
  | .hbm, ⟨27, _⟩ => ⟨S384x640, .f32⟩
  | .hbm, ⟨28, _⟩ => ⟨S640x512, .f32⟩
  | .hbm, ⟨29, _⟩ => ⟨S640x512, .f32⟩
  | .hbm, ⟨30, _⟩ => ⟨S4x512, .f32⟩
  | .hbm, ⟨31, _⟩ => ⟨S_, .i32⟩
  | .hbm, ⟨32, _⟩ => ⟨S_, .f32⟩
  | .hbm, ⟨33, _⟩ => ⟨S8x512, .f32⟩
  | .hbm, ⟨34, _⟩ => ⟨S1x320, .f32⟩
  | .hbm, ⟨35, _⟩ => ⟨S1x320, .f32⟩
  | .hbm, ⟨36, _⟩ => ⟨S1x320, .f32⟩
  | .hbm, ⟨37, _⟩ => ⟨S1x160, .f32⟩
  | .hbm, ⟨38, _⟩ => ⟨S1x160, .f32⟩
  | .hbm, ⟨39, _⟩ => ⟨S1x1, .f32⟩
  | .hbm, ⟨40, _⟩ => ⟨S1x160, .f32⟩
  | .hbm, ⟨41, _⟩ => ⟨S1x160, .f32⟩
  | .hbm, ⟨42, _⟩ => ⟨S1x1, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x384, .f32⟩
  | .hbm, ⟨47, _⟩ => ⟨S1x512, .f32⟩
  | .hbm, ⟨48, _⟩ => ⟨S512x1, .f32⟩
  | .hbm, ⟨49, _⟩ => ⟨S1x512, .f32⟩
  | .hbm, ⟨50, _⟩ => ⟨S1x256, .f32⟩
  | .hbm, ⟨51, _⟩ => ⟨S1x384x384, .f32⟩
  | .hbm, ⟨52, _⟩ => ⟨S384x1, .f32⟩
  | .hbm, ⟨53, _⟩ => ⟨S384x1, .f32⟩
  | .hbm, ⟨54, _⟩ => ⟨S384x512, .bf16⟩
  | .hbm, ⟨55, _⟩ => ⟨S384x512, .bf16⟩
  | .hbm, ⟨56, _⟩ => ⟨S384x512, .bf16⟩
  | .hbm, ⟨57, _⟩ => ⟨S384x512, .bf16⟩
  | .hbm, ⟨58, _⟩ => ⟨S384x256, .f32⟩
  | .hbm, ⟨59, _⟩ => ⟨S512x256, .bf16⟩
  | .hbm, ⟨60, _⟩ => ⟨S1x256, .f32⟩
  | .hbm, ⟨61, _⟩ => ⟨S1x256, .f32⟩
  | .hbm, ⟨62, _⟩ => ⟨S1x128, .f32⟩
  | .hbm, ⟨63, _⟩ => ⟨S1x384x384x128, .f32⟩
  | .hbm, ⟨64, _⟩ => ⟨S1x384, .f32⟩
  | .hbm, ⟨65, _⟩ => ⟨S1x384, .f32⟩
  | .local _ .vmem, ⟨0, _⟩ => ⟨S384x640, .f32⟩
  | .local _ .vmem, ⟨1, _⟩ => ⟨S640x320, .f32⟩
  | .local _ .vmem, ⟨2, _⟩ => ⟨S1x320, .f32⟩
  | .local _ .vmem, ⟨3, _⟩ => ⟨S1x320, .f32⟩
  | .local _ .vmem, ⟨4, _⟩ => ⟨S1x320, .f32⟩
  | .local _ .vmem, ⟨5, _⟩ => ⟨S320x160, .f32⟩
  | .local _ .vmem, ⟨6, _⟩ => ⟨S1x160, .f32⟩
  | .local _ .vmem, ⟨7, _⟩ => ⟨S1x160, .f32⟩
  | .local _ .vmem, ⟨8, _⟩ => ⟨S1x1, .f32⟩
  | .local _ .vmem, ⟨9, _⟩ => ⟨S320x160, .f32⟩
  | .local _ .vmem, ⟨10, _⟩ => ⟨S1x160, .f32⟩
  | .local _ .vmem, ⟨11, _⟩ => ⟨S1x160, .f32⟩
  | .local _ .vmem, ⟨12, _⟩ => ⟨S1x1, .f32⟩
  | .local _ .vmem, ⟨13, _⟩ => ⟨S640x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x384, .f32⟩
  | .local _ .vmem, ⟨18, _⟩ => ⟨S1x384, .f32⟩
  | .local _ .vmem, ⟨19, _⟩ => ⟨S640x512, .f32⟩
  | .local _ .vmem, ⟨20, _⟩ => ⟨S640x512, .f32⟩
  | .local _ .vmem, ⟨21, _⟩ => ⟨S8x512, .f32⟩
  | .local _ .vmem, ⟨22, _⟩ => ⟨S1x512, .f32⟩
  | .local _ .vmem, ⟨23, _⟩ => ⟨S512x1, .f32⟩
  | .local _ .vmem, ⟨24, _⟩ => ⟨S1x512, .f32⟩
  | .local _ .vmem, ⟨25, _⟩ => ⟨S512x256, .f32⟩
  | .local _ .vmem, ⟨26, _⟩ => ⟨S1x256, .f32⟩
  | .local _ .vmem, ⟨27, _⟩ => ⟨S1x384x384, .f32⟩
  | .local _ .vmem, ⟨28, _⟩ => ⟨S384x1, .f32⟩
  | .local _ .vmem, ⟨29, _⟩ => ⟨S384x1, .f32⟩
  | .local _ .vmem, ⟨30, _⟩ => ⟨S384x512, .bf16⟩
  | .local _ .vmem, ⟨31, _⟩ => ⟨S384x512, .bf16⟩
  | .local _ .vmem, ⟨32, _⟩ => ⟨S384x512, .bf16⟩
  | .local _ .vmem, ⟨33, _⟩ => ⟨S384x512, .bf16⟩
  | .local _ .vmem, ⟨34, _⟩ => ⟨S384x256, .f32⟩
  | .local _ .vmem, ⟨35, _⟩ => ⟨S512x256, .bf16⟩
  | .local _ .vmem, ⟨36, _⟩ => ⟨S1x256, .f32⟩
  | .local _ .vmem, ⟨37, _⟩ => ⟨S1x256, .f32⟩
  | .local _ .vmem, ⟨38, _⟩ => ⟨S96x512, .bf16⟩
  | .local _ .vmem, ⟨39, _⟩ => ⟨S96x512, .bf16⟩
  | .local _ .vmem, ⟨40, _⟩ => ⟨S96x512, .bf16⟩
  | .local _ .vmem, ⟨41, _⟩ => ⟨S96x512, .bf16⟩
  | .local _ .vmem, ⟨42, _⟩ => ⟨S96x512, .bf16⟩
  | .local _ .vmem, ⟨43, _⟩ => ⟨S96x512, .bf16⟩
  | .local _ .vmem, ⟨44, _⟩ => ⟨S128x512, .bf16⟩
  | .local _ .vmem, ⟨45, _⟩ => ⟨S128x512, .bf16⟩
  | .local _ .vmem, ⟨46, _⟩ => ⟨S128x256, .f32⟩
  | .local _ .vmem, ⟨47, _⟩ => ⟨S128x256, .f32⟩
  | .local _ .vmem, ⟨48, _⟩ => ⟨S512x256, .bf16⟩
  | .local _ .vmem, ⟨49, _⟩ => ⟨S1x256, .f32⟩
  | .local _ .vmem, ⟨50, _⟩ => ⟨S1x256, .f32⟩
  | .local _ .vmem, ⟨51, _⟩ => ⟨S256x128, .f32⟩
  | .local _ .vmem, ⟨52, _⟩ => ⟨S1x128, .f32⟩
  | .local _ .vmem, ⟨53, _⟩ => ⟨S1x96x128x128, .f32⟩
  | .local _ .vmem, ⟨54, _⟩ => ⟨S1x96x128x128, .f32⟩
  | _, _ => ⟨S1x384x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_call0_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22_0 : Ref sig .tc := ⟨.hbm, 51, rfl⟩
abbrev main_v22_1 : Ref sig .tc := ⟨.hbm, 52, rfl⟩
abbrev main_v22_2 : Ref sig .tc := ⟨.hbm, 53, rfl⟩
abbrev main_v22_3 : Ref sig .tc := ⟨.hbm, 54, rfl⟩
abbrev main_v22_4 : Ref sig .tc := ⟨.hbm, 55, rfl⟩
abbrev main_v22_5 : Ref sig .tc := ⟨.hbm, 56, rfl⟩
abbrev main_v22_6 : Ref sig .tc := ⟨.hbm, 57, rfl⟩
abbrev main_v22_7 : Ref sig .tc := ⟨.hbm, 58, rfl⟩
abbrev main_v22_8 : Ref sig .tc := ⟨.hbm, 59, rfl⟩
abbrev main_v22_9 : Ref sig .tc := ⟨.hbm, 60, rfl⟩
abbrev main_v22_10 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc1_stg0_0 : Ref sig .tc := ⟨.vmem, 38, rfl⟩
abbrev cc1_stg0_1 : Ref sig .tc := ⟨.vmem, 39, rfl⟩
abbrev cc1_stg1_0 : Ref sig .tc := ⟨.vmem, 40, rfl⟩
abbrev cc1_stg1_1 : Ref sig .tc := ⟨.vmem, 41, rfl⟩
abbrev cc1_stg2_0 : Ref sig .tc := ⟨.vmem, 42, rfl⟩
abbrev cc1_stg2_1 : Ref sig .tc := ⟨.vmem, 43, rfl⟩
abbrev cc1_stg3_0 : Ref sig .tc := ⟨.vmem, 44, rfl⟩
abbrev cc1_stg3_1 : Ref sig .tc := ⟨.vmem, 45, rfl⟩
abbrev cc1_stg4_0 : Ref sig .tc := ⟨.vmem, 46, rfl⟩
abbrev cc1_stg4_1 : Ref sig .tc := ⟨.vmem, 47, rfl⟩
abbrev cc1_stg5_0 : Ref sig .tc := ⟨.vmem, 48, rfl⟩
abbrev cc1_stg6_0 : Ref sig .tc := ⟨.vmem, 49, rfl⟩
abbrev cc1_stg7_0 : Ref sig .tc := ⟨.vmem, 50, rfl⟩
abbrev cc1_stg8_0 : Ref sig .tc := ⟨.vmem, 51, rfl⟩
abbrev cc1_stg9_0 : Ref sig .tc := ⟨.vmem, 52, rfl⟩
abbrev cc1_stg10_0 : Ref sig .tc := ⟨.vmem, 53, rfl⟩
abbrev cc1_stg10_1 : Ref sig .tc := ⟨.vmem, 54, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc1_sem0_0 : DmaSem sig := 38
abbrev cc1_sem0_1 : DmaSem sig := 39
abbrev cc1_sem1_0 : DmaSem sig := 40
abbrev cc1_sem1_1 : DmaSem sig := 41
abbrev cc1_sem2_0 : DmaSem sig := 42
abbrev cc1_sem2_1 : DmaSem sig := 43
abbrev cc1_sem3_0 : DmaSem sig := 44
abbrev cc1_sem3_1 : DmaSem sig := 45
abbrev cc1_sem4_0 : DmaSem sig := 46
abbrev cc1_sem4_1 : DmaSem sig := 47
abbrev cc1_sem5_0 : DmaSem sig := 48
abbrev cc1_sem6_0 : DmaSem sig := 49
abbrev cc1_sem7_0 : DmaSem sig := 50
abbrev cc1_sem8_0 : DmaSem sig := 51
abbrev cc1_sem9_0 : DmaSem sig := 52
abbrev cc1_sem10_0 : DmaSem sig := 53
abbrev cc1_sem10_1 : DmaSem sig := 54

abbrev nD : Nat := 1
abbrev τ : Topo := Topo.v7x

variable {F : FTy → Type} [FloatOps F]

abbrev grid0 : Pipeline.Grid := .none

abbrev stage0_0 : Fin 1 → Memref sig .tc .vmem S384x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S320x160 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x160 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S640x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S640x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S640x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S8x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S512x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S512x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x384x384 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S384x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S384x1 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S384x512 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S384x512 .bf16 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S384x512 .bf16 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S384x512 .bf16 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S384x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S512x256 .bf16 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x256 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x256 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev grid1 : Pipeline.Grid := ⟨2, ![4, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S96x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S96x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S96x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x96x128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ReferenceIdeal.lean ====
abbrev S1x384x640 : Shape := ⟨3, ![1, 384, 640]⟩
abbrev S640x320 : Shape := ⟨2, ![640, 320]⟩
abbrev S320 : Shape := ⟨1, ![320]⟩
abbrev S320x160 : Shape := ⟨2, ![320, 160]⟩
abbrev S160 : Shape := ⟨1, ![160]⟩
abbrev S160x1 : Shape := ⟨2, ![160, 1]⟩
abbrev S1 : Shape := ⟨1, ![1]⟩
abbrev S640x512 : Shape := ⟨2, ![640, 512]⟩
abbrev S512 : Shape := ⟨1, ![512]⟩
abbrev S512x384 : Shape := ⟨2, ![512, 384]⟩
abbrev S384 : Shape := ⟨1, ![384]⟩
abbrev S1284x512 : Shape := ⟨2, ![1284, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x384x320 : Shape := ⟨3, ![1, 384, 320]⟩
abbrev S1x1x320 : Shape := ⟨3, ![1, 1, 320]⟩
abbrev S_ : Shape := ⟨0, ![]⟩
abbrev S1x384 : Shape := ⟨2, ![1, 384]⟩
abbrev S1x384x1 : Shape := ⟨3, ![1, 384, 1]⟩
abbrev S1x384x160 : Shape := ⟨3, ![1, 384, 160]⟩
abbrev S1x1x160 : Shape := ⟨3, ![1, 1, 160]⟩
abbrev S1x1x1 : Shape := ⟨3, ![1, 1, 1]⟩
abbrev S1x384x512 : Shape := ⟨3, ![1, 384, 512]⟩
abbrev S1x1x512 : Shape := ⟨3, ![1, 1, 512]⟩
abbrev S1x384x384 : Shape := ⟨3, ![1, 384, 384]⟩
abbrev S1x1x384 : Shape := ⟨3, ![1, 1, 384]⟩
abbrev S1x384x384x1 : Shape := ⟨4, ![1, 384, 384, 1]⟩
abbrev S1x384x384x4 : Shape := ⟨4, ![1, 384, 384, 4]⟩
abbrev S4x512 : Shape := ⟨2, ![4, 512]⟩
abbrev S1x384x1x512 : Shape := ⟨4, ![1, 384, 1, 512]⟩
abbrev S1x1x384x512 : Shape := ⟨4, ![1, 1, 384, 512]⟩
abbrev S1x384x384x512 : Shape := ⟨4, ![1, 384, 384, 512]⟩
abbrev S1x1x1x512 : Shape := ⟨4, ![1, 1, 1, 512]⟩
abbrev S1x384x384x256 : Shape := ⟨4, ![1, 384, 384, 256]⟩
abbrev S1x1x1x256 : Shape := ⟨4, ![1, 1, 1, 256]⟩
abbrev S1x384x384x128 : Shape := ⟨4, ![1, 384, 384, 128]⟩
abbrev S1x1x1x128 : Shape := ⟨4, ![1, 1, 1, 128]⟩

abbrev nBuf : Space → Nat
  | .hbm => 255
  | .vmem => 0
  | .smem => 0
  | _ => 0

abbrev hbmTy0_0 (i : Nat) : BufTy := match i % 128 with
  | 0 => ⟨S1x384x640, .f32⟩
  | 1 => ⟨S640x320, .f32⟩
  | 2 => ⟨S320, .f32⟩
  | 3 => ⟨S320, .f32⟩
  | 4 => ⟨S320, .f32⟩
  | 5 => ⟨S320x160, .f32⟩
  | 6 => ⟨S160, .f32⟩
  | 7 => ⟨S160x1, .f32⟩
  | 8 => ⟨S1, .f32⟩
  | 9 => ⟨S320x160, .f32⟩
  | 10 => ⟨S160, .f32⟩
  | 11 => ⟨S160x1, .f32⟩
  | 12 => ⟨S1, .f32⟩
  | 13 => ⟨S640x512, .f32⟩
  | 14 => ⟨S512, .f32⟩
  | 15 => ⟨S512, .f32⟩
  | 16 => ⟨S512, .f32⟩
  | 17 => ⟨S512x384, .f32⟩
  | 18 => ⟨S384, .f32⟩
  | 19 => ⟨S1284x512, .f32⟩
  | 20 => ⟨S512, .f32⟩
  | 21 => ⟨S512, .f32⟩
  | 22 => ⟨S512, .f32⟩
  | 23 => ⟨S512x256, .f32⟩
  | 24 => ⟨S256, .f32⟩
  | 25 => ⟨S256x128, .f32⟩
  | 26 => ⟨S128, .f32⟩
  | 27 => ⟨S1x384x320, .f32⟩
  | 28 => ⟨S1x1x320, .f32⟩
  | 29 => ⟨S1x384x320, .f32⟩
  | 30 => ⟨S1x384x320, .f32⟩
  | 31 => ⟨S_, .f32⟩
  | 32 => ⟨S1x384x320, .f32⟩
  | 33 => ⟨S1x384x320, .f32⟩
  | 34 => ⟨S_, .f32⟩
  | 35 => ⟨S1x384, .f32⟩
  | 36 => ⟨S1x384x1, .f32⟩
  | 37 => ⟨S_, .f32⟩
  | 38 => ⟨S1x384x1, .f32⟩
  | 39 => ⟨S1x384x1, .f32⟩
  | 40 => ⟨S_, .i32⟩
  | 41 => ⟨S_, .f32⟩
  | 42 => ⟨S1x384, .f32⟩
  | 43 => ⟨S1x384x1, .f32⟩
  | 44 => ⟨S_, .f32⟩
  | 45 => ⟨S1x384x1, .f32⟩
  | 46 => ⟨S1x384x1, .f32⟩
  | 47 => ⟨S1x384x320, .f32⟩
  | 48 => ⟨S1x384x320, .f32⟩
  | 49 => ⟨S1x384x320, .f32⟩
  | 50 => ⟨S_, .f32⟩
  | 51 => ⟨S_, .f32⟩
  | 52 => ⟨S_, .f32⟩
  | 53 => ⟨S_, .f32⟩
  | 54 => ⟨S1x384, .f32⟩
  | 55 => ⟨S1x384x1, .f32⟩
  | 56 => ⟨S1x384x1, .f32⟩
  | 57 => ⟨S1x384x1, .f32⟩
  | 58 => ⟨S_, .f32⟩
  | 59 => ⟨S_, .i1⟩
  | 60 => ⟨S_, .f32⟩
  | 61 => ⟨S_, .f32⟩
  | 62 => ⟨S1x384x1, .f32⟩
  | 63 => ⟨S1x384x1, .f32⟩
  | 64 => ⟨S1x384x320, .f32⟩
  | 65 => ⟨S1x384x320, .f32⟩
  | 66 => ⟨S_, .f32⟩
  | 67 => ⟨S1x384x1, .f32⟩
  | 68 => ⟨S1x384x1, .f32⟩
  | 69 => ⟨S1x384x1, .f32⟩
  | 70 => ⟨S1x384x320, .f32⟩
  | 71 => ⟨S1x384x320, .f32⟩
  | 72 => ⟨S1x1x320, .f32⟩
  | 73 => ⟨S1x384x320, .f32⟩
  | 74 => ⟨S1x384x320, .f32⟩
  | 75 => ⟨S1x1x320, .f32⟩
  | 76 => ⟨S1x384x320, .f32⟩
  | 77 => ⟨S1x384x320, .f32⟩
  | 78 => ⟨S1x384x160, .f32⟩
  | 79 => ⟨S1x1x160, .f32⟩
  | 80 => ⟨S1x384x160, .f32⟩
  | 81 => ⟨S1x384x160, .f32⟩
  | 82 => ⟨S_, .f32⟩
  | 83 => ⟨S1x384x160, .f32⟩
  | 84 => ⟨S1x384x160, .f32⟩
  | 85 => ⟨S1x384x1, .f32⟩
  | 86 => ⟨S1x1x1, .f32⟩
  | 87 => ⟨S1x384x1, .f32⟩
  | 88 => ⟨S1x384x1, .f32⟩
  | 89 => ⟨S1x384, .f32⟩
  | 90 => ⟨S1x384x160, .f32⟩
  | 91 => ⟨S1x1x160, .f32⟩
  | 92 => ⟨S1x384x160, .f32⟩
  | 93 => ⟨S1x384x160, .f32⟩
  | 94 => ⟨S_, .f32⟩
  | 95 => ⟨S1x384x160, .f32⟩
  | 96 => ⟨S1x384x160, .f32⟩
  | 97 => ⟨S1x384x1, .f32⟩
  | 98 => ⟨S1x1x1, .f32⟩
  | 99 => ⟨S1x384x1, .f32⟩
  | 100 => ⟨S1x384x1, .f32⟩
  | 101 => ⟨S1x384, .f32⟩
  | 102 => ⟨S1x384x512, .f32⟩
  | 103 => ⟨S1x1x512, .f32⟩
  | 104 => ⟨S1x384x512, .f32⟩
  | 105 => ⟨S1x384x512, .f32⟩
  | 106 => ⟨S_, .f32⟩
  | 107 => ⟨S1x384x512, .f32⟩
  | 108 => ⟨S1x384x512, .f32⟩
  | 109 => ⟨S_, .f32⟩
  | 110 => ⟨S1x384, .f32⟩
  | 111 => ⟨S1x384x1, .f32⟩
  | 112 => ⟨S_, .f32⟩
  | 113 => ⟨S1x384x1, .f32⟩
  | 114 => ⟨S1x384x1, .f32⟩
  | 115 => ⟨S_, .i32⟩
  | 116 => ⟨S_, .f32⟩
  | 117 => ⟨S1x384, .f32⟩
  | 118 => ⟨S1x384x1, .f32⟩
  | 119 => ⟨S_, .f32⟩
  | 120 => ⟨S1x384x1, .f32⟩
  | 121 => ⟨S1x384x1, .f32⟩
  | 122 => ⟨S1x384x512, .f32⟩
  | 123 => ⟨S1x384x512, .f32⟩
  | 124 => ⟨S1x384x512, .f32⟩
  | 125 => ⟨S_, .f32⟩
  | 126 => ⟨S_, .f32⟩
  | 127 => ⟨S_, .f32⟩
  | _ => ⟨S1x384x640, .f32⟩

abbrev hbmTy0_1 (i : Nat) : BufTy := match i % 128 with
  | 0 => ⟨S_, .f32⟩
  | 1 => ⟨S1x384, .f32⟩
  | 2 => ⟨S1x384x1, .f32⟩
  | 3 => ⟨S1x384x1, .f32⟩
  | 4 => ⟨S1x384x1, .f32⟩
  | 5 => ⟨S_, .f32⟩
  | 6 => ⟨S_, .i1⟩
  | 7 => ⟨S_, .f32⟩
  | 8 => ⟨S_, .f32⟩
  | 9 => ⟨S1x384x1, .f32⟩
  | 10 => ⟨S1x384x1, .f32⟩
  | 11 => ⟨S1x384x512, .f32⟩
  | 12 => ⟨S1x384x512, .f32⟩
  | 13 => ⟨S_, .f32⟩
  | 14 => ⟨S1x384x1, .f32⟩
  | 15 => ⟨S1x384x1, .f32⟩
  | 16 => ⟨S1x384x1, .f32⟩
  | 17 => ⟨S1x384x512, .f32⟩
  | 18 => ⟨S1x384x512, .f32⟩
  | 19 => ⟨S1x1x512, .f32⟩
  | 20 => ⟨S1x384x512, .f32⟩
  | 21 => ⟨S1x384x512, .f32⟩
  | 22 => ⟨S1x1x512, .f32⟩
  | 23 => ⟨S1x384x512, .f32⟩
  | 24 => ⟨S1x384x512, .f32⟩
  | 25 => ⟨S1x384x384, .f32⟩
  | 26 => ⟨S1x1x384, .f32⟩
  | 27 => ⟨S1x384x384, .f32⟩
  | 28 => ⟨S1x384x384, .f32⟩
  | 29 => ⟨S1x384x1, .f32⟩
  | 30 => ⟨S1x1x384, .f32⟩
  | 31 => ⟨S1x384x384, .f32⟩
  | 32 => ⟨S1x384x384, .f32⟩
  | 33 => ⟨S1x384x384, .f32⟩
  | 34 => ⟨S1x384x1, .f32⟩
  | 35 => ⟨S1x1x384, .f32⟩
  | 36 => ⟨S1x384x384, .f32⟩
  | 37 => ⟨S1x384x384, .f32⟩
  | 38 => ⟨S1x384x384, .f32⟩
  | 39 => ⟨S1x384x1, .f32⟩
  | 40 => ⟨S1x1x384, .f32⟩
  | 41 => ⟨S1x384x384, .f32⟩
  | 42 => ⟨S1x384x384, .f32⟩
  | 43 => ⟨S1x384x384, .f32⟩
  | 44 => ⟨S1x384x1, .f32⟩
  | 45 => ⟨S1x1x384, .f32⟩
  | 46 => ⟨S1x384x384, .f32⟩
  | 47 => ⟨S1x384x384, .f32⟩
  | 48 => ⟨S1x384x384, .f32⟩
  | 49 => ⟨S1x384x384x1, .f32⟩
  | 50 => ⟨S1x384x384x1, .f32⟩
  | 51 => ⟨S1x384x384x1, .f32⟩
  | 52 => ⟨S1x384x384x1, .f32⟩
  | 53 => ⟨S1x384x384x4, .f32⟩
  | 54 => ⟨S640x512, .f32⟩
  | 55 => ⟨S640x512, .f32⟩
  | 56 => ⟨S4x512, .f32⟩
  | 57 => ⟨S1x384x512, .f32⟩
  | 58 => ⟨S1x384x512, .f32⟩
  | 59 => ⟨S1x384x1x512, .f32⟩
  | 60 => ⟨S1x1x384x512, .f32⟩
  | 61 => ⟨S1x384x384x512, .f32⟩
  | 62 => ⟨S1x384x384x512, .f32⟩
  | 63 => ⟨S1x384x384x512, .f32⟩
  | 64 => ⟨S1x384x384x512, .f32⟩
  | 65 => ⟨S1x384x384x512, .f32⟩
  | 66 => ⟨S1x1x1x512, .f32⟩
  | 67 => ⟨S1x384x384x512, .f32⟩
  | 68 => ⟨S1x384x384x512, .f32⟩
  | 69 => ⟨S_, .f32⟩
  | 70 => ⟨S1x384x384x512, .f32⟩
  | 71 => ⟨S1x384x384x512, .f32⟩
  | 72 => ⟨S_, .f32⟩
  | 73 => ⟨S1x384x384, .f32⟩
  | 74 => ⟨S1x384x384x1, .f32⟩
  | 75 => ⟨S_, .f32⟩
  | 76 => ⟨S1x384x384x1, .f32⟩
  | 77 => ⟨S1x384x384x1, .f32⟩
  | 78 => ⟨S_, .i32⟩
  | 79 => ⟨S_, .f32⟩
  | 80 => ⟨S1x384x384, .f32⟩
  | 81 => ⟨S1x384x384x1, .f32⟩
  | 82 => ⟨S_, .f32⟩
  | 83 => ⟨S1x384x384x1, .f32⟩
  | 84 => ⟨S1x384x384x1, .f32⟩
  | 85 => ⟨S1x384x384x512, .f32⟩
  | 86 => ⟨S1x384x384x512, .f32⟩
  | 87 => ⟨S1x384x384x512, .f32⟩
  | 88 => ⟨S_, .f32⟩
  | 89 => ⟨S_, .f32⟩
  | 90 => ⟨S_, .f32⟩
  | 91 => ⟨S_, .f32⟩
  | 92 => ⟨S1x384x384, .f32⟩
  | 93 => ⟨S1x384x384x1, .f32⟩
  | 94 => ⟨S1x384x384x1, .f32⟩
  | 95 => ⟨S1x384x384x1, .f32⟩
  | 96 => ⟨S_, .f32⟩
  | 97 => ⟨S_, .i1⟩
  | 98 => ⟨S_, .f32⟩
  | 99 => ⟨S_, .f32⟩
  | 100 => ⟨S1x384x384x1, .f32⟩
  | 101 => ⟨S1x384x384x1, .f32⟩
  | 102 => ⟨S1x384x384x512, .f32⟩
  | 103 => ⟨S1x384x384x512, .f32⟩
  | 104 => ⟨S_, .f32⟩
  | 105 => ⟨S1x384x384x1, .f32⟩
  | 106 => ⟨S1x384x384x1, .f32⟩
  | 107 => ⟨S1x384x384x1, .f32⟩
  | 108 => ⟨S1x384x384x512, .f32⟩
  | 109 => ⟨S1x384x384x512, .f32⟩
  | 110 => ⟨S1x1x1x512, .f32⟩
  | 111 => ⟨S1x384x384x512, .f32⟩
  | 112 => ⟨S1x384x384x512, .f32⟩
  | 113 => ⟨S1x1x1x512, .f32⟩
  | 114 => ⟨S1x384x384x512, .f32⟩
  | 115 => ⟨S1x384x384x512, .f32⟩
  | 116 => ⟨S1x384x384x256, .f32⟩
  | 117 => ⟨S1x1x1x256, .f32⟩
  | 118 => ⟨S1x384x384x256, .f32⟩
  | 119 => ⟨S1x384x384x256, .f32⟩
  | 120 => ⟨S_, .f32⟩
  | 121 => ⟨S1x384x384x256, .f32⟩
  | 122 => ⟨S1x384x384x256, .f32⟩
  | 123 => ⟨S1x384x384x128, .f32⟩
  | 124 => ⟨S1x1x1x128, .f32⟩
  | 125 => ⟨S1x384x384x128, .f32⟩
  | 126 => ⟨S1x384x384x128, .f32⟩
  | _ => ⟨S1x384x640, .f32⟩

abbrev hbmTy (i : Nat) : BufTy := match i / 128 with
  | 0 => hbmTy0_0 i
  | 1 => hbmTy0_1 i
  | _ => ⟨S1x384x640, .f32⟩

abbrev bufTy : (tb : Table) → Fin (tcTables nBuf tb) → BufTy
  | .hbm, ⟨i, _⟩ => hbmTy i
  | _, _ => ⟨S1x384x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_call0_cst : Ref sig .tc := ⟨.hbm, 31, rfl⟩
abbrev main_call0_v0 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_cst_0 : Ref sig .tc := ⟨.hbm, 37, rfl⟩
abbrev main_v7 : Ref sig .tc := ⟨.hbm, 38, rfl⟩
abbrev main_v8 : Ref sig .tc := ⟨.hbm, 39, rfl⟩
abbrev main_c : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_cst_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_cst_1 : Ref sig .tc := ⟨.hbm, 51, rfl⟩
abbrev main_call1_v8 : Ref sig .tc := ⟨.hbm, 52, rfl⟩
abbrev main_call1_cst_2 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_cst_3 : Ref sig .tc := ⟨.hbm, 58, rfl⟩
abbrev main_call1_v13 : Ref sig .tc := ⟨.hbm, 59, rfl⟩
abbrev main_call1_cst_4 : Ref sig .tc := ⟨.hbm, 60, rfl⟩
abbrev main_call1_call0_v0 : Ref sig .tc := ⟨.hbm, 61, rfl⟩
abbrev main_call1_call0_v1 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_cst_1 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_call2_cst : Ref sig .tc := ⟨.hbm, 82, rfl⟩
abbrev main_call2_v0 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_call3_cst : Ref sig .tc := ⟨.hbm, 94, rfl⟩
abbrev main_call3_v0 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_call4_cst : Ref sig .tc := ⟨.hbm, 106, rfl⟩
abbrev main_call4_v0 : Ref sig .tc := ⟨.hbm, 107, rfl⟩
abbrev main_v47 : Ref sig .tc := ⟨.hbm, 108, rfl⟩
abbrev main_cst_2 : Ref sig .tc := ⟨.hbm, 109, rfl⟩
abbrev main_v48 : Ref sig .tc := ⟨.hbm, 110, rfl⟩
abbrev main_v49 : Ref sig .tc := ⟨.hbm, 111, rfl⟩
abbrev main_cst_3 : Ref sig .tc := ⟨.hbm, 112, rfl⟩
abbrev main_v50 : Ref sig .tc := ⟨.hbm, 113, rfl⟩
abbrev main_v51 : Ref sig .tc := ⟨.hbm, 114, rfl⟩
abbrev main_c_4 : Ref sig .tc := ⟨.hbm, 115, rfl⟩
abbrev main_call5_cst : Ref sig .tc := ⟨.hbm, 116, rfl⟩
abbrev main_call5_v0 : Ref sig .tc := ⟨.hbm, 117, rfl⟩
abbrev main_call5_v1 : Ref sig .tc := ⟨.hbm, 118, rfl⟩
abbrev main_call5_cst_0 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_v6 : Ref sig .tc := ⟨.hbm, 124, rfl⟩
abbrev main_call5_v7 : Ref sig .tc := ⟨.hbm, 125, rfl⟩
abbrev main_call5_cst_1 : Ref sig .tc := ⟨.hbm, 126, rfl⟩
abbrev main_call5_v8 : Ref sig .tc := ⟨.hbm, 127, rfl⟩
abbrev main_call5_cst_2 : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_call5_v12 : Ref sig .tc := ⟨.hbm, 132, rfl⟩
abbrev main_call5_cst_3 : Ref sig .tc := ⟨.hbm, 133, rfl⟩
abbrev main_call5_v13 : Ref sig .tc := ⟨.hbm, 134, rfl⟩
abbrev main_call5_cst_4 : Ref sig .tc := ⟨.hbm, 135, rfl⟩
abbrev main_call5_call0_v0 : Ref sig .tc := ⟨.hbm, 136, rfl⟩
abbrev main_call5_call0_v1 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_cst_5 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_call6_cst : Ref sig .tc := ⟨.hbm, 197, rfl⟩
abbrev main_call6_v0 : Ref sig .tc := ⟨.hbm, 198, rfl⟩
abbrev main_v110 : Ref sig .tc := ⟨.hbm, 199, rfl⟩
abbrev main_cst_6 : Ref sig .tc := ⟨.hbm, 200, rfl⟩
abbrev main_v111 : Ref sig .tc := ⟨.hbm, 201, rfl⟩
abbrev main_v112 : Ref sig .tc := ⟨.hbm, 202, rfl⟩
abbrev main_cst_7 : Ref sig .tc := ⟨.hbm, 203, rfl⟩
abbrev main_v113 : Ref sig .tc := ⟨.hbm, 204, rfl⟩
abbrev main_v114 : Ref sig .tc := ⟨.hbm, 205, rfl⟩
abbrev main_c_8 : Ref sig .tc := ⟨.hbm, 206, rfl⟩
abbrev main_call7_cst : Ref sig .tc := ⟨.hbm, 207, rfl⟩
abbrev main_call7_v0 : Ref sig .tc := ⟨.hbm, 208, rfl⟩
abbrev main_call7_v1 : Ref sig .tc := ⟨.hbm, 209, rfl⟩
abbrev main_call7_cst_0 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_call7_v5 : Ref sig .tc := ⟨.hbm, 214, rfl⟩
abbrev main_call7_v6 : Ref sig .tc := ⟨.hbm, 215, rfl⟩
abbrev main_call7_v7 : Ref sig .tc := ⟨.hbm, 216, rfl⟩
abbrev main_call7_cst_1 : Ref sig .tc := ⟨.hbm, 217, rfl⟩
abbrev main_call7_v8 : Ref sig .tc := ⟨.hbm, 218, rfl⟩
abbrev main_call7_cst_2 : Ref sig .tc := ⟨.hbm, 219, rfl⟩
abbrev main_call7_v9 : Ref sig .tc := ⟨.hbm, 220, rfl⟩
abbrev main_call7_v10 : Ref sig .tc := ⟨.hbm, 221, rfl⟩
abbrev main_call7_v11 : Ref sig .tc := ⟨.hbm, 222, rfl⟩
abbrev main_call7_v12 : Ref sig .tc := ⟨.hbm, 223, rfl⟩
abbrev main_call7_cst_3 : Ref sig .tc := ⟨.hbm, 224, rfl⟩
abbrev main_call7_v13 : Ref sig .tc := ⟨.hbm, 225, rfl⟩
abbrev main_call7_cst_4 : Ref sig .tc := ⟨.hbm, 226, rfl⟩
abbrev main_call7_call0_v0 : Ref sig .tc := ⟨.hbm, 227, rfl⟩
abbrev main_call7_call0_v1 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_cst_9 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_call8_cst : Ref sig .tc := ⟨.hbm, 248, rfl⟩
abbrev main_call8_v0 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_v137 : Ref sig .tc := ⟨.hbm, 254, rfl⟩

abbrev nD : Nat := 1
abbrev τ : Topo := Topo.v7x

variable {F : FTy → Type} [FloatOps F]
-- ==== Proof.KernelBody.lean ====
/- The two kernel bodies of the idealized program at a grid point: what each leaves in every output window, from the input
   windows' blocks, and the obligations the pipelines ask of them. Taken from the derived frame module, whose budget is
   too small for the first call's thirty-eight windows; three proofs here have a larger one. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Mathlib.Tactic.IntervalCases

@[expose] public section

-- membership in a rectangle of production extents (`View.cover_of_tiled`): the elaborator's structural look
-- recurses once per coordinate of the long axes
set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__rows_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_0 : Rect S384x640 := Rect.unit (s := S384x640) ![0, 0] S384x640.size inb_S384x640_S384x640_0_0
abbrev r0_1 : Rect S640x320 := Rect.unit (s := S640x320) ![0, 0] S640x320.size inb_S640x320_S640x320_0_0
abbrev r0_2 : Rect S1x320 := Rect.unit (s := S1x320) ![0, 0] S1x320.size inb_S1x320_S1x320_0_0
abbrev r0_3 : Rect S320x160 := Rect.unit (s := S320x160) ![0, 0] S320x160.size inb_S320x160_S320x160_0_0
abbrev r0_4 : Rect S1x160 := Rect.unit (s := S1x160) ![0, 0] S1x160.size inb_S1x160_S1x160_0_0
abbrev r0_5 : Rect S1x1 := Rect.unit (s := S1x1) ![0, 0] S1x1.size inb_S1x1_S1x1_0_0
abbrev r0_6 : Rect S640x512 := Rect.unit (s := S640x512) ![0, 0] S640x512.size inb_S640x512_S640x512_0_0
abbrev r0_7 : Rect S1x512 := Rect.unit (s := S1x512) ![0, 0] S1x512.size inb_S1x512_S1x512_0_0
abbrev r0_8 : Rect S512x384 := Rect.unit (s := S512x384) ![0, 0] S512x384.size inb_S512x384_S512x384_0_0
abbrev r0_9 : Rect S1x384 := Rect.unit (s := S1x384) ![0, 0] S1x384.size inb_S1x384_S1x384_0_0
abbrev r0_10 : Rect S1x384x384 := Rect.unit (s := S1x384x384) ![0, 0, 0] S1x384x384.size inb_S1x384x384_S1x384x384_0_0_0
abbrev r0_11 : Rect S8x512 := Rect.unit (s := S8x512) ![0, 0] S8x512.size inb_S8x512_S8x512_0_0
abbrev r0_12 : Rect S384x512 := Rect.unit (s := S384x512) ![0, 0] S384x512.size inb_S384x512_S384x512_0_0
abbrev r0_13 : Rect S384x1 := Rect.unit (s := S384x1) ![0, 0] S384x1.size inb_S384x1_S384x1_0_0
abbrev r0_14 : Rect S384x256 := Rect.unit (s := S384x256) ![0, 0] S384x256.size inb_S384x256_S384x256_0_0
abbrev r0_15 : Rect S512x256 := Rect.unit (s := S512x256) ![0, 0] S512x256.size inb_S512x256_S512x256_0_0
abbrev r0_16 : Rect S512x1 := Rect.unit (s := S512x1) ![0, 0] S512x1.size inb_S512x1_S512x1_0_0
abbrev r0_17 : Rect S1x256 := Rect.unit (s := S1x256) ![0, 0] S1x256.size inb_S1x256_S1x256_0_0

/-! ## What the body leaves in each output window's buffer -/

/-! ### Values of the body that the stores' payloads, spelt out, would write more than once

    Each is a vector the body binds (often a part call's result), stated over the input windows' blocks and
    numbered on from the skeleton's payload functions (`k0_pay21` …, after `k0_pay20`), so that
    `out0_W` and the values after it name it instead of spelling it out (`unfold_out out0_W` opens a canon
    with them, `unfold_payloads` opens them with the payloads); the comment after each is the printed function's
    name for the value (a count appended where that name is bound again). -/

/-- The rows of features as the body loads them. -/
def k0_pay21 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : FVec F S384x640 .f32 :=
  k0_pay6 (View.ld x0 r0_0) -- `v1`
/-- The first narrow head (the one stored in window 28): one number a row. -/
def k0_pay22 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : FVec F S384x1 .f32 :=
  k0_pay10 (k0_pay8 (View.ld x0 r0_0) (View.ld x1 r0_1) (View.ld x2 r0_2) (View.ld x3 r0_2) (View.ld x4 r0_2) (View.ld x5 r0_3)) (k0_pay9 (View.ld x6 r0_4)) (View.ld x7 r0_4) (View.ld x8 r0_5) -- `v51`
/-- The second narrow head (the one stored in window 29): one number a row. -/
def k0_pay23 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : FVec F S384x1 .f32 :=
  k0_pay11 (k0_pay7 (View.ld x0 r0_0) (View.ld x1 r0_1) (View.ld x2 r0_2) (View.ld x3 r0_2) (View.ld x4 r0_2)) (View.ld x9 r0_3) (View.ld x10 r0_4) (View.ld x11 r0_4) (View.ld x12 r0_5) -- `v69`

/-- Window 27's staging buffer after the body, from the input windows' blocks: its 1 store as pieces, LAST
    FIRST (Lib/Pipeline/FrameBody.lean `View.canon`; the payloads are the skeleton's and the values stated above). -/
def out0_27 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S1x384x384 .f32 :=
  View.canon [⟨r0_10, k0_pay13 (k0_pay12 (k0_pay21 x0 x1 x2 x3 x4 x5 x6 x7 x8 x9 x10 x11 x12 x13 x14 x15 x16 x17 x18 x19 x20 x21 x22 x23 x24 x25 x26) (View.ld x13 r0_6) (View.ld x14 r0_7)) (View.ld x15 r0_7) (View.ld x16 r0_7) (View.ld x17 r0_8) (View.ld x18 r0_9)⟩]

/-- Its stores tile the buffer (checked by evaluation), so they cover it. -/
theorem cover0_27 (p0 : Vec F S1x384x384 .f32) (y : S1x384x384.Idx) :
    ∃ pc ∈ ([⟨r0_10, p0⟩] : List (View.Piece (Elt F) S1x384x384 .f32)), y ∈ pc.1.set :=
  View.cover_of_tiled [⟨r0_10, p0⟩] S1x384x384.size (by rfl) y

/-- Window 28's staging buffer after the body, from the input windows' blocks: its 1 store as pieces, LAST
    FIRST (Lib/Pipeline/FrameBody.lean `View.canon`; the payloads are the skeleton's and the values stated above). -/
def out0_28 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S384x1 .f32 :=
  View.canon [⟨r0_13, k0_pay22 x0 x1 x2 x3 x4 x5 x6 x7 x8 x9 x10 x11 x12 x13 x14 x15 x16 x17 x18 x19 x20 x21 x22 x23 x24 x25 x26⟩]

/-- Its stores tile the buffer (checked by evaluation), so they cover it. -/
theorem cover0_28 (p0 : Vec F S384x1 .f32) (y : S384x1.Idx) :
    ∃ pc ∈ ([⟨r0_13, p0⟩] : List (View.Piece (Elt F) S384x1 .f32)), y ∈ pc.1.set :=
  View.cover_of_tiled [⟨r0_13, p0⟩] S384x1.size (by rfl) y

/-- Window 29's staging buffer after the body, from the input windows' blocks: its 1 store as pieces, LAST
    FIRST (Lib/Pipeline/FrameBody.lean `View.canon`; the payloads are the skeleton's and the values stated above). -/
def out0_29 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S384x1 .f32 :=
  View.canon [⟨r0_13, k0_pay23 x0 x1 x2 x3 x4 x5 x6 x7 x8 x9 x10 x11 x12 x13 x14 x15 x16 x17 x18 x19 x20 x21 x22 x23 x24 x25 x26⟩]

/-- Its stores tile the buffer (checked by evaluation), so they cover it. -/
theorem cover0_29 (p0 : Vec F S384x1 .f32) (y : S384x1.Idx) :
    ∃ pc ∈ ([⟨r0_13, p0⟩] : List (View.Piece (Elt F) S384x1 .f32)), y ∈ pc.1.set :=
  View.cover_of_tiled [⟨r0_13, p0⟩] S384x1.size (by rfl) y

/-- Window 30's staging buffer after the body, from the input windows' blocks: its 1 store as pieces, LAST
    FIRST (Lib/Pipeline/FrameBody.lean `View.canon`; the payloads are the skeleton's and the values stated above). -/
def out0_30 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S384x512 .bf16 :=
  View.canon [⟨r0_12, k0_pay17 (k0_pay22 x0 x1 x2 x3 x4 x5 x6 x7 x8 x9 x10 x11 x12 x13 x14 x15 x16 x17 x18 x19 x20 x21 x22 x23 x24 x25 x26) (k0_pay23 x0 x1 x2 x3 x4 x5 x6 x7 x8 x9 x10 x11 x12 x13 x14 x15 x16 x17 x18 x19 x20 x21 x22 x23 x24 x25 x26) (k0_pay14 (k0_pay21 x0 x1 x2 x3 x4 x5 x6 x7 x8 x9 x10 x11 x12 x13 x14 x15 x16 x17 x18 x19 x20 x21 x22 x23 x24 x25 x26) (View.ld x19 r0_6)) (View.ld x21 r0_11)⟩]

/-- Its stores tile the buffer (checked by evaluation), so they cover it. -/
theorem cover0_30 (p0 : Vec F S384x512 .bf16) (y : S384x512.Idx) :
    ∃ pc ∈ ([⟨r0_12, p0⟩] : List (View.Piece (Elt F) S384x512 .bf16)), y ∈ pc.1.set :=
  View.cover_of_tiled [⟨r0_12, p0⟩] S384x512.size (by rfl) y

/-- Window 31's staging buffer after the body, from the input windows' blocks: its 1 store as pieces, LAST
    FIRST (Lib/Pipeline/FrameBody.lean `View.canon`; the payloads are the skeleton's and the values stated above). -/
def out0_31 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S384x512 .bf16 :=
  View.canon [⟨r0_12, k0_pay18 (k0_pay21 x0 x1 x2 x3 x4 x5 x6 x7 x8 x9 x10 x11 x12 x13 x14 x15 x16 x17 x18 x19 x20 x21 x22 x23 x24 x25 x26) (k0_pay22 x0 x1 x2 x3 x4 x5 x6 x7 x8 x9 x10 x11 x12 x13 x14 x15 x16 x17 x18 x19 x20 x21 x22 x23 x24 x25 x26) (k0_pay23 x0 x1 x2 x3 x4 x5 x6 x7 x8 x9 x10 x11 x12 x13 x14 x15 x16 x17 x18 x19 x20 x21 x22 x23 x24 x25 x26) (View.ld x20 r0_6) (View.ld x21 r0_11) (View.ld x22 r0_7)⟩]

/-- Its stores tile the buffer (checked by evaluation), so they cover it. -/
theorem cover0_31 (p0 : Vec F S384x512 .bf16) (y : S384x512.Idx) :
    ∃ pc ∈ ([⟨r0_12, p0⟩] : List (View.Piece (Elt F) S384x512 .bf16)), y ∈ pc.1.set :=
  View.cover_of_tiled [⟨r0_12, p0⟩] S384x512.size (by rfl) y

/-- Window 32's staging buffer after the body, from the input windows' blocks: its 1 store as pieces, LAST
    FIRST (Lib/Pipeline/FrameBody.lean `View.canon`; the payloads are the skeleton's and the values stated above). -/
def out0_32 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S384x512 .bf16 :=
  View.canon [⟨r0_12, k0_pay19 (k0_pay22 x0 x1 x2 x3 x4 x5 x6 x7 x8 x9 x10 x11 x12 x13 x14 x15 x16 x17 x18 x19 x20 x21 x22 x23 x24 x25 x26) (View.ld x21 r0_11)⟩]

/-- Its stores tile the buffer (checked by evaluation), so they cover it. -/
theorem cover0_32 (p0 : Vec F S384x512 .bf16) (y : S384x512.Idx) :
    ∃ pc ∈ ([⟨r0_12, p0⟩] : List (View.Piece (Elt F) S384x512 .bf16)), y ∈ pc.1.set :=
  View.cover_of_tiled [⟨r0_12, p0⟩] S384x512.size (by rfl) y

/-- Window 33's staging buffer after the body, from the input windows' blocks: its 1 store as pieces, LAST
    FIRST (Lib/Pipeline/FrameBody.lean `View.canon`; the payloads are the skeleton's and the values stated above). -/
def out0_33 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S384x512 .bf16 :=
  View.canon [⟨r0_12, k0_pay20 (k0_pay23 x0 x1 x2 x3 x4 x5 x6 x7 x8 x9 x10 x11 x12 x13 x14 x15 x16 x17 x18 x19 x20 x21 x22 x23 x24 x25 x26) (View.ld x21 r0_11)⟩]

/-- Its stores tile the buffer (checked by evaluation), so they cover it. -/
theorem cover0_33 (p0 : Vec F S384x512 .bf16) (y : S384x512.Idx) :
    ∃ pc ∈ ([⟨r0_12, p0⟩] : List (View.Piece (Elt F) S384x512 .bf16)), y ∈ pc.1.set :=
  View.cover_of_tiled [⟨r0_12, p0⟩] S384x512.size (by rfl) y

/-- Window 34's staging buffer after the body, from the input windows' blocks: its 1 store as pieces, LAST
    FIRST (Lib/Pipeline/FrameBody.lean `View.canon`; the payloads are the skeleton's and the values stated above). -/
def out0_34 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S384x256 .f32 :=
  View.canon [⟨r0_14, k0_pay1 (k0_pay22 x0 x1 x2 x3 x4 x5 x6 x7 x8 x9 x10 x11 x12 x13 x14 x15 x16 x17 x18 x19 x20 x21 x22 x23 x24 x25 x26) (k0_pay23 x0 x1 x2 x3 x4 x5 x6 x7 x8 x9 x10 x11 x12 x13 x14 x15 x16 x17 x18 x19 x20 x21 x22 x23 x24 x25 x26)⟩]

/-- Its stores tile the buffer (checked by evaluation), so they cover it. -/
theorem cover0_34 (p0 : Vec F S384x256 .f32) (y : S384x256.Idx) :
    ∃ pc ∈ ([⟨r0_14, p0⟩] : List (View.Piece (Elt F) S384x256 .f32)), y ∈ pc.1.set :=
  View.cover_of_tiled [⟨r0_14, p0⟩] S384x256.size (by rfl) y

/-- Window 35's staging buffer after the body, from the input windows' blocks: its 1 store as pieces, LAST
    FIRST (Lib/Pipeline/FrameBody.lean `View.canon`; the payloads are the skeleton's and the values stated above). -/
def out0_35 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S512x256 .bf16 :=
  View.canon [⟨r0_15, k0_pay3 (View.ld x25 r0_15) (View.ld x23 r0_16)⟩]

/-- Its stores tile the buffer (checked by evaluation), so they cover it. -/
theorem cover0_35 (p0 : Vec F S512x256 .bf16) (y : S512x256.Idx) :
    ∃ pc ∈ ([⟨r0_15, p0⟩] : List (View.Piece (Elt F) S512x256 .bf16)), y ∈ pc.1.set :=
  View.cover_of_tiled [⟨r0_15, p0⟩] S512x256.size (by rfl) y

/-- Window 36's staging buffer after the body, from the input windows' blocks: its 1 store as pieces, LAST
    FIRST (Lib/Pipeline/FrameBody.lean `View.canon`; the payloads are the skeleton's and the values stated above). -/
def out0_36 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S1x256 .f32 :=
  View.canon [⟨r0_17, k0_pay4 (View.ld x25 r0_15) (View.ld x23 r0_16)⟩]

/-- Its stores tile the buffer (checked by evaluation), so they cover it. -/
theorem cover0_36 (p0 : Vec F S1x256 .f32) (y : S1x256.Idx) :
    ∃ pc ∈ ([⟨r0_17, p0⟩] : List (View.Piece (Elt F) S1x256 .f32)), y ∈ pc.1.set :=
  View.cover_of_tiled [⟨r0_17, p0⟩] S1x256.size (by rfl) y

/-- Window 37's staging buffer after the body, from the input windows' blocks: its 1 store as pieces, LAST
    FIRST (Lib/Pipeline/FrameBody.lean `View.canon`; the payloads are the skeleton's and the values stated above). -/
def out0_37 (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) : Vec F S1x256 .f32 :=
  View.canon [⟨r0_17, k0_pay5 (View.ld x25 r0_15) (View.ld x24 r0_7) (View.ld x26 r0_17)⟩]

/-- Its stores tile the buffer (checked by evaluation), so they cover it. -/
theorem cover0_37 (p0 : Vec F S1x256 .f32) (y : S1x256.Idx) :
    ∃ pc ∈ ([⟨r0_17, p0⟩] : List (View.Piece (Elt F) S1x256 .f32)), y ∈ pc.1.set :=
  View.cover_of_tiled [⟨r0_17, p0⟩] S1x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S384x640 .f32) (harg0 : arg0.IsWhole) (arg1 : Memref sig .tc .vmem S640x320 .f32) (harg1 : arg1.IsWhole) (arg2 : Memref sig .tc .vmem S1x320 .f32) (harg2 : arg2.IsWhole) (arg3 : Memref sig .tc .vmem S1x320 .f32) (harg3 : arg3.IsWhole) (arg4 : Memref sig .tc .vmem S1x320 .f32) (harg4 : arg4.IsWhole) (arg5 : Memref sig .tc .vmem S320x160 .f32) (harg5 : arg5.IsWhole) (arg6 : Memref sig .tc .vmem S1x160 .f32) (harg6 : arg6.IsWhole) (arg7 : Memref sig .tc .vmem S1x160 .f32) (harg7 : arg7.IsWhole) (arg8 : Memref sig .tc .vmem S1x1 .f32) (harg8 : arg8.IsWhole) (arg9 : Memref sig .tc .vmem S320x160 .f32) (harg9 : arg9.IsWhole) (arg10 : Memref sig .tc .vmem S1x160 .f32) (harg10 : arg10.IsWhole) (arg11 : Memref sig .tc .vmem S1x160 .f32) (harg11 : arg11.IsWhole) (arg12 : Memref sig .tc .vmem S1x1 .f32) (harg12 : arg12.IsWhole) (arg13 : Memref sig .tc .vmem S640x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x384 .f32) (harg17 : arg17.IsWhole) (arg18 : Memref sig .tc .vmem S1x384 .f32) (harg18 : arg18.IsWhole) (arg19 : Memref sig .tc .vmem S640x512 .f32) (harg19 : arg19.IsWhole) (arg20 : Memref sig .tc .vmem S640x512 .f32) (harg20 : arg20.IsWhole) (arg21 : Memref sig .tc .vmem S8x512 .f32) (harg21 : arg21.IsWhole) (arg22 : Memref sig .tc .vmem S1x512 .f32) (harg22 : arg22.IsWhole) (arg23 : Memref sig .tc .vmem S512x1 .f32) (harg23 : arg23.IsWhole) (arg24 : Memref sig .tc .vmem S1x512 .f32) (harg24 : arg24.IsWhole) (arg25 : Memref sig .tc .vmem S512x256 .f32) (harg25 : arg25.IsWhole) (arg26 : Memref sig .tc .vmem S1x256 .f32) (harg26 : arg26.IsWhole) (arg27 : Memref sig .tc .vmem S1x384x384 .f32) (harg27 : arg27.IsWhole) (arg28 : Memref sig .tc .vmem S384x1 .f32) (harg28 : arg28.IsWhole) (arg29 : Memref sig .tc .vmem S384x1 .f32) (harg29 : arg29.IsWhole) (arg30 : Memref sig .tc .vmem S384x512 .bf16) (harg30 : arg30.IsWhole) (arg31 : Memref sig .tc .vmem S384x512 .bf16) (harg31 : arg31.IsWhole) (arg32 : Memref sig .tc .vmem S384x512 .bf16) (harg32 : arg32.IsWhole) (arg33 : Memref sig .tc .vmem S384x512 .bf16) (harg33 : arg33.IsWhole) (arg34 : Memref sig .tc .vmem S384x256 .f32) (harg34 : arg34.IsWhole) (arg35 : Memref sig .tc .vmem S512x256 .bf16) (harg35 : arg35.IsWhole) (arg36 : Memref sig .tc .vmem S1x256 .f32) (harg36 : arg36.IsWhole) (arg37 : Memref sig .tc .vmem S1x256 .f32) (harg37 : arg37.IsWhole)
    (x0 : Vec F S384x640 .f32) (x1 : Vec F S640x320 .f32) (x2 : Vec F S1x320 .f32) (x3 : Vec F S1x320 .f32) (x4 : Vec F S1x320 .f32) (x5 : Vec F S320x160 .f32) (x6 : Vec F S1x160 .f32) (x7 : Vec F S1x160 .f32) (x8 : Vec F S1x1 .f32) (x9 : Vec F S320x160 .f32) (x10 : Vec F S1x160 .f32) (x11 : Vec F S1x160 .f32) (x12 : Vec F S1x1 .f32) (x13 : Vec F S640x512 .f32) (x14 : Vec F S1x512 .f32) (x15 : Vec F S1x512 .f32) (x16 : Vec F S1x512 .f32) (x17 : Vec F S512x384 .f32) (x18 : Vec F S1x384 .f32) (x19 : Vec F S640x512 .f32) (x20 : Vec F S640x512 .f32) (x21 : Vec F S8x512 .f32) (x22 : Vec F S1x512 .f32) (x23 : Vec F S512x1 .f32) (x24 : Vec F S1x512 .f32) (x25 : Vec F S512x256 .f32) (x26 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare (out0_27 x0 x1 x2 x3 x4 x5 x6 x7 x8 x9 x10 x11 x12 x13 x14 x15 x16 x17 x18 x19 x20 x21 x22 x23 x24 x25 x26) ∗ owns (c : Thread nD τ) arg28 fullShare (out0_28 x0 x1 x2 x3 x4 x5 x6 x7 x8 x9 x10 x11 x12 x13 x14 x15 x16 x17 x18 x19 x20 x21 x22 x23 x24 x25 x26) ∗ owns (c : Thread nD τ) arg29 fullShare (out0_29 x0 x1 x2 x3 x4 x5 x6 x7 x8 x9 x10 x11 x12 x13 x14 x15 x16 x17 x18 x19 x20 x21 x22 x23 x24 x25 x26) ∗ owns (c : Thread nD τ) arg30 fullShare (out0_30 x0 x1 x2 x3 x4 x5 x6 x7 x8 x9 x10 x11 x12 x13 x14 x15 x16 x17 x18 x19 x20 x21 x22 x23 x24 x25 x26) ∗ owns (c : Thread nD τ) arg31 fullShare (out0_31 x0 x1 x2 x3 x4 x5 x6 x7 x8 x9 x10 x11 x12 x13 x14 x15 x16 x17 x18 x19 x20 x21 x22 x23 x24 x25 x26) ∗ owns (c : Thread nD τ) arg32 fullShare (out0_32 x0 x1 x2 x3 x4 x5 x6 x7 x8 x9 x10 x11 x12 x13 x14 x15 x16 x17 x18 x19 x20 x21 x22 x23 x24 x25 x26) ∗ owns (c : Thread nD τ) arg33 fullShare (out0_33 x0 x1 x2 x3 x4 x5 x6 x7 x8 x9 x10 x11 x12 x13 x14 x15 x16 x17 x18 x19 x20 x21 x22 x23 x24 x25 x26) ∗ owns (c : Thread nD τ) arg34 fullShare (out0_34 x0 x1 x2 x3 x4 x5 x6 x7 x8 x9 x10 x11 x12 x13 x14 x15 x16 x17 x18 x19 x20 x21 x22 x23 x24 x25 x26) ∗ owns (c : Thread nD τ) arg35 fullShare (out0_35 x0 x1 x2 x3 x4 x5 x6 x7 x8 x9 x10 x11 x12 x13 x14 x15 x16 x17 x18 x19 x20 x21 x22 x23 x24 x25 x26) ∗ owns (c : Thread nD τ) arg36 fullShare (out0_36 x0 x1 x2 x3 x4 x5 x6 x7 x8 x9 x10 x11 x12 x13 x14 x15 x16 x17 x18 x19 x20 x21 x22 x23 x24 x25 x26) ∗ owns (c : Thread nD τ) arg37 fullShare (out0_37 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__rows_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
  simp only [cc0__rows_kernel_eq_skeleton]; unfold cc0__rows_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  isplitl [H35]
  · iexists _; isplitr
    swap; · iexact H35
    ipureintro
    refine (View.read_writes_eq_canon _ _ _ (cover0_35 _)).trans ?_
    rfl
  isplitl [H36]
  · iexists _; isplitr
    swap; · iexact H36
    ipureintro
    refine (View.read_writes_eq_canon _ _ _ (cover0_36 _)).trans ?_
    rfl
  iexists _; isplitr
  swap; · iexact H37
  ipureintro
  refine (View.read_writes_eq_canon _ _ _ (cover0_37 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => iblk0 V c 23 t
    | ⟨24, _⟩ => iblk0 V c 24 t
    | ⟨25, _⟩ => iblk0 V c 25 t
    | ⟨26, _⟩ => iblk0 V c 26 t
    | ⟨27, _⟩ => out0_27 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨28, _⟩ => out0_28 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨29, _⟩ => out0_29 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨30, _⟩ => out0_30 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨31, _⟩ => out0_31 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨32, _⟩ => out0_32 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨33, _⟩ => out0_33 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨34, _⟩ => out0_34 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨35, _⟩ => out0_35 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨36, _⟩ => out0_36 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨37, _⟩ => out0_37 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨_ + 38, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the first call's body leaves in output window 27. -/
theorem after0_27 (c : Dev nD) (t : Fin cfg0.N) : (dat0 V c).after 27 t = out0_27 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
/-- What the first call's body leaves in output window 28. -/
theorem after0_28 (c : Dev nD) (t : Fin cfg0.N) : (dat0 V c).after 28 t = out0_28 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
/-- What the first call's body leaves in output window 29. -/
theorem after0_29 (c : Dev nD) (t : Fin cfg0.N) : (dat0 V c).after 29 t = out0_29 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
/-- What the first call's body leaves in output window 30. -/
theorem after0_30 (c : Dev nD) (t : Fin cfg0.N) : (dat0 V c).after 30 t = out0_30 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
/-- What the first call's body leaves in output window 31. -/
theorem after0_31 (c : Dev nD) (t : Fin cfg0.N) : (dat0 V c).after 31 t = out0_31 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
/-- What the first call's body leaves in output window 32. -/
theorem after0_32 (c : Dev nD) (t : Fin cfg0.N) : (dat0 V c).after 32 t = out0_32 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
/-- What the first call's body leaves in output window 33. -/
theorem after0_33 (c : Dev nD) (t : Fin cfg0.N) : (dat0 V c).after 33 t = out0_33 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
/-- What the first call's body leaves in output window 34. -/
theorem after0_34 (c : Dev nD) (t : Fin cfg0.N) : (dat0 V c).after 34 t = out0_34 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
/-- What the first call's body leaves in output window 35. -/
theorem after0_35 (c : Dev nD) (t : Fin cfg0.N) : (dat0 V c).after 35 t = out0_35 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
/-- What the first call's body leaves in output window 36. -/
theorem after0_36 (c : Dev nD) (t : Fin cfg0.N) : (dat0 V c).after 36 t = out0_36 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
/-- What the first call's body leaves in output window 37. -/
theorem after0_37 (c : Dev nD) (t : Fin cfg0.N) : (dat0 V c).after 37 t = out0_37 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]

set_option maxHeartbeats 2000000 in
/-- The body leaves each input window as the fetch brings it: the window's block, uncut. -/
theorem fetched0 (c : Dev nD) (w : Fin cfg0.W) (hw : w.val < 27) (t : Fin cfg0.N) (d) :
    (dat0 V c).fetched w t d = (dat0 V c).after w t := by
  obtain ⟨i, hi⟩ := w
  dsimp only at hw
  interval_cases i <;> (unfold Dat.fetched Dat.blockOf; rw [A_eq0]; dsimp only [dat0]; rfl)

/-- So an input window's current staging buffer holds before the body what it holds after it, fetched at this point
    or not. -/
theorem before0 (c : Dev nD) (w : Fin cfg0.W) (hw : w.val < 27) (t : Fin cfg0.N) (d) :
    (dat0 V c).before w t d = (dat0 V c).after w t := by
  rw [← fetched0 V c w hw t d]
  have hkeep : ∀ t, (cfg0.win w).cut (cfg0.grid.coords t) ((dat0 V c).after w t) = (dat0 V c).blockOf w t :=
    fun t => by rw [← fetched0 V c w hw t d]; exact Window.cut_fill ..
  obtain ⟨i, hi⟩ := w
  dsimp only at hw
  interval_cases i <;> exact (dat0 V c).before_in_eq_fetched _ rfl (fun _ => rfl) (fun _ _ _ => rfl) hkeep t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d))
    ∗ (∃ d, owns (c : Thread nD τ) (st0_27 t) fullShare ((dat0 V c).before 27 t d))
    ∗ (∃ d, owns (c : Thread nD τ) (st0_28 t) fullShare ((dat0 V c).before 28 t d))
    ∗ (∃ d, owns (c : Thread nD τ) (st0_29 t) fullShare ((dat0 V c).before 29 t d))
    ∗ (∃ d, owns (c : Thread nD τ) (st0_30 t) fullShare ((dat0 V c).before 30 t d))
    ∗ (∃ d, owns (c : Thread nD τ) (st0_31 t) fullShare ((dat0 V c).before 31 t d))
    ∗ (∃ d, owns (c : Thread nD τ) (st0_32 t) fullShare ((dat0 V c).before 32 t d))
    ∗ (∃ d, owns (c : Thread nD τ) (st0_33 t) fullShare ((dat0 V c).before 33 t d))
    ∗ (∃ d, owns (c : Thread nD τ) (st0_34 t) fullShare ((dat0 V c).before 34 t d))
    ∗ (∃ d, owns (c : Thread nD τ) (st0_35 t) fullShare ((dat0 V c).before 35 t d))
    ∗ (∃ d, owns (c : Thread nD τ) (st0_36 t) fullShare ((dat0 V c).before 36 t d))
    ∗ (∃ d, owns (c : Thread nD τ) (st0_37 t) fullShare ((dat0 V c).before 37 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t)
    ∗ owns (c : Thread nD τ) (st0_27 t) fullShare ((dat0 V c).after 27 t)
    ∗ owns (c : Thread nD τ) (st0_28 t) fullShare ((dat0 V c).after 28 t)
    ∗ owns (c : Thread nD τ) (st0_29 t) fullShare ((dat0 V c).after 29 t)
    ∗ owns (c : Thread nD τ) (st0_30 t) fullShare ((dat0 V c).after 30 t)
    ∗ owns (c : Thread nD τ) (st0_31 t) fullShare ((dat0 V c).after 31 t)
    ∗ owns (c : Thread nD τ) (st0_32 t) fullShare ((dat0 V c).after 32 t)
    ∗ owns (c : Thread nD τ) (st0_33 t) fullShare ((dat0 V c).after 33 t)
    ∗ owns (c : Thread nD τ) (st0_34 t) fullShare ((dat0 V c).after 34 t)
    ∗ owns (c : Thread nD τ) (st0_35 t) fullShare ((dat0 V c).after 35 t)
    ∗ owns (c : Thread nD τ) (st0_36 t) fullShare ((dat0 V c).after 36 t)
    ∗ owns (c : Thread nD τ) (st0_37 t) fullShare ((dat0 V c).after 37 t))

set_option maxHeartbeats 2000000 in
/-- The body at any point: the inputs' memrefs hold their blocks (`before0`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp (disch := decide) only [before0]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩⟩
  iapply (sound_kernel0 c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  iintro ⟨H0, H1, H2, H3, H4, H5, H6, H7, H8, H9, H10, H11, H12, H13, H14, H15, H16, H17, H18, H19, H20, H21, H22, H23, H24, H25, H26, H27, H28, H29, H30, H31, H32, H33, H34, H35, H36, H37⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  iexact H37

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__pair_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S96x512 := Rect.unit (s := S96x512) ![0, 0] S96x512.size inb_S96x512_S96x512_0_0
abbrev r1_1 : Rect S128x512 := Rect.unit (s := S128x512) ![0, 0] S128x512.size inb_S128x512_S128x512_0_0
abbrev r1_2 : Rect S128x256 := Rect.unit (s := S128x256) ![0, 0] S128x1.size inb_S128x256_S128x1_0_0
abbrev r1_3 : Rect S128x256 := Rect.unit (s := S128x256) ![0, 128] S128x1.size inb_S128x256_S128x1_0_128
abbrev r1_4 : Rect S512x256 := Rect.unit (s := S512x256) ![0, 0] S512x256.size inb_S512x256_S512x256_0_0
abbrev r1_5 : Rect S1x256 := Rect.unit (s := S1x256) ![0, 0] S1x256.size inb_S1x256_S1x256_0_0
abbrev r1_6 : Rect S256x128 := Rect.unit (s := S256x128) ![0, 0] S256x128.size inb_S256x128_S256x128_0_0
abbrev r1_7 : Rect S1x128 := Rect.unit (s := S1x128) ![0, 0] S1x128.size inb_S1x128_S1x128_0_0
abbrev r1_8 : Rect S1x96x128x128 := Rect.unit (s := S1x96x128x128) ![0, 0, 0, 0] S1x96x128x128.size inb_S1x96x128x128_S1x96x128x128_0_0_0_0

/-! ## What the body leaves in each output window's buffer -/

/-- Window 10's staging buffer after the body, from the input windows' blocks: its 1 store as pieces, LAST
    FIRST (Lib/Pipeline/FrameBody.lean `View.canon`; the payloads are the skeleton's). -/
def out1_10 (x0 : Vec F S96x512 .bf16) (x1 : Vec F S96x512 .bf16) (x2 : Vec F S96x512 .bf16) (x3 : Vec F S128x512 .bf16) (x4 : Vec F S128x256 .f32) (x5 : Vec F S512x256 .bf16) (x6 : Vec F S1x256 .f32) (x7 : Vec F S1x256 .f32) (x8 : Vec F S256x128 .f32) (x9 : Vec F S1x128 .f32) : Vec F S1x96x128x128 .f32 :=
  View.canon [⟨r1_8, k1_pay1 (k1_pay3 (View.ld x0 r1_0) (View.ld x3 r1_1) (View.ld x4 r1_2) (View.ld x4 r1_3) (View.ld x1 r1_0) (View.ld x2 r1_0) (View.ld x5 r1_4)) (k1_pay5 (View.ld x0 r1_0) (View.ld x3 r1_1) (View.ld x4 r1_2) (View.ld x4 r1_3) (View.ld x1 r1_0) (View.ld x2 r1_0)) (k1_pay6 (View.ld x0 r1_0) (View.ld x3 r1_1) (View.ld x4 r1_2) (View.ld x4 r1_3) (View.ld x1 r1_0) (View.ld x2 r1_0)) (View.ld x6 r1_5) (View.ld x7 r1_5) (View.ld x8 r1_6) (View.ld x9 r1_7)⟩]

/-- Its stores tile the buffer (checked by evaluation), so they cover it. -/
theorem cover1_10 (p0 : Vec F S1x96x128x128 .f32) (y : S1x96x128x128.Idx) :
    ∃ pc ∈ ([⟨r1_8, p0⟩] : List (View.Piece (Elt F) S1x96x128x128 .f32)), y ∈ pc.1.set :=
  View.cover_of_tiled [⟨r1_8, p0⟩] S1x96x128x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S96x512 .bf16) (harg2 : arg2.IsWhole) (arg3 : Memref sig .tc .vmem S96x512 .bf16) (harg3 : arg3.IsWhole) (arg4 : Memref sig .tc .vmem S96x512 .bf16) (harg4 : arg4.IsWhole) (arg5 : Memref sig .tc .vmem S128x512 .bf16) (harg5 : arg5.IsWhole) (arg6 : Memref sig .tc .vmem S128x256 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S256x128 .f32) (harg10 : arg10.IsWhole) (arg11 : Memref sig .tc .vmem S1x128 .f32) (harg11 : arg11.IsWhole) (arg12 : Memref sig .tc .vmem S1x96x128x128 .f32) (harg12 : arg12.IsWhole)
    (x0 : Vec F S96x512 .bf16) (x1 : Vec F S96x512 .bf16) (x2 : Vec F S96x512 .bf16) (x3 : Vec F S128x512 .bf16) (x4 : Vec F S128x256 .f32) (x5 : Vec F S512x256 .bf16) (x6 : Vec F S1x256 .f32) (x7 : Vec F S1x256 .f32) (x8 : Vec F S256x128 .f32) (x9 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out1_10 x0 x1 x2 x3 x4 x5 x6 x7 x8 x9)) -∗ K ⟨⟩))
      ⊢ wp frame (wpE (defs₀ (F := F)) Variants.none c none) E (cc1__pair_kernel i arg2 harg2 arg3 harg3 arg4 harg4 arg5 harg5 arg6 harg6 arg7 harg7 arg8 harg8 arg9 harg9 arg10 harg10 arg11 harg11 arg12 harg12) K := by
  simp only [cc1__pair_kernel_eq_skeleton]; unfold cc1__pair_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the second call's body leaves in its output window. -/
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- The body leaves each input window as the fetch brings it: the window's block, uncut. -/
theorem fetched1 (c : Dev nD) (w : Fin cfg1.W) (hw : w.val < 10) (t : Fin cfg1.N) (d) :
    (dat1 V c).fetched w t d = (dat1 V c).after w t := by
  obtain ⟨i, hi⟩ := w
  dsimp only at hw
  interval_cases i <;> (unfold Dat.fetched Dat.blockOf; rw [A_eq1]; dsimp only [dat1]; rfl)

/-- So an input window's current staging buffer holds before the body what it holds after it, fetched at this point
    or not. -/
theorem before1 (c : Dev nD) (w : Fin cfg1.W) (hw : w.val < 10) (t : Fin cfg1.N) (d) :
    (dat1 V c).before w t d = (dat1 V c).after w t := by
  rw [← fetched1 V c w hw t d]
  have hkeep : ∀ t, (cfg1.win w).cut (cfg1.grid.coords t) ((dat1 V c).after w t) = (dat1 V c).blockOf w t :=
    fun t => by rw [← fetched1 V c w hw t d]; exact Window.cut_fill ..
  obtain ⟨i, hi⟩ := w
  dsimp only at hw
  interval_cases i <;> exact (dat1 V c).before_in_eq_fetched _ rfl (fun _ => rfl) (fun _ _ _ => rfl) hkeep t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks (`before1`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp (disch := decide) only [before1]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Launched

end
-- ==== Proof.KernelRun.lean ====
/- The idealized program from launch to return: the buffers' contents at each boundary between host stretches and calls,
   and the run of the whole program over them. Taken from the derived frame module (see KernelBody). -/
module

public import proofs.«01_k».proof.Proof.KernelBody
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_c]
/-- `hostOps0` writes only the references of `hostOps0_W`. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v4]
/-- `hostOps0_1` writes only the references of `hostOps0_1_W`. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v5, main_v6, main_v7, main_v8, main_v9, main_v10, main_v11, main_v12, main_v13, main_v14, main_v15, main_v16, main_v17, main_v18, main_v19, main_v20, main_v21]
/-- `hostOps0_2` writes only the references of `hostOps0_2_W`. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v23]
/-- `hostOps1` writes only the references of `hostOps1_W`. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v25, main_v26]
/-- `hostOps2` writes only the references of `hostOps2_W`. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The argument arrays at launch are the memory's. -/
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Every argument array holds, after the first stretch, what it held at launch. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- Every argument array holds, after the second stretch, what it held at launch. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- Every argument array holds, after the third stretch, what it held at launch. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
/-- At region 0's exit each of its arrays holds what the pipeline leaves in it. -/
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
/-- A reference that is none of region 0's arrays keeps its contents across it. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- Every argument array holds, at the first call's exit, what it held at launch. -/
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
/-- A buffer that is none of region 0's arrays leaves it as it entered. -/
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- Every argument array holds, at the second call's entry, what it held at launch. -/
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec1 c (W5 m ρ c) fun w => (dat1 (V5 m ρ) c).arrAt w cfg1.N
/-- At region 1's exit each of its arrays holds what the pipeline leaves in it. -/
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
/-- A reference that is none of region 1's arrays keeps its contents across it. -/
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- Every argument array holds, at the second call's exit, what it held at launch. -/
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V5 m ρ) c).arrAt w cfg1.N = V6 m ρ c (Pipeline.arrRef spec1 w) :=
  (W6_arr m ρ c w).symm
/-- A buffer that is none of region 1's arrays leaves it as it entered. -/
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`. -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- Every argument array holds, at the return, what it held at launch. -/
theorem W7_args (c : Dev nD) : ∀ a ∈ argRefs, W7 m ρ c (Proc.devRef .tc a) = m ((c : Thread nD τ).loc a) :=
  fun a ha => (W7_of m ρ c a (hostOps2_args a ha)).trans (W6_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
/-- No loop of the program carries a variant. -/
abbrev 𝒱₀ : Variants := Variants.none
/-- No core owes another anything: no level is assigned. -/
abbrev L : GSem nD τ sig → Finset Unit := fun _ => ∅
/-- Every level is zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch theorem's implicit arguments are found by unifying its conclusion with this one
set_option backward.isDefEq.respectTransparency.types false in
/-- The run: from any memory with zero counters every weakly fair execution terminates without fault, every buffer the
    program holds throughout ends at the last boundary's contents `W7`, and every semaphore counter at zero. -/
theorem run : θ_run defs (onTc (τ := τ) (main (F := F))) ⟨m, fun _ => 0, ρ⟩ (fun r =>
      (∀ c : Dev nD, ∀ b ∈ Pipeline.ucRefs τ sig, r.2.mem (c, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

variable (F) in
/-- The statement of the frame at an instance `F` of the float operations: from any memory with zero counters the program
    terminates without fault, its arguments end as launched and every semaphore counter at zero. -/
def Framed : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0)

/-- Every argument array is held throughout the run (checked: each argument). -/
theorem args_uc : ∀ a ∈ argRefs, (Proc.devRef .tc a : DevRef τ sig) ∈ Pipeline.ucRefs τ sig :=
  fun a ha => mem_uc a ((ListAll.forall_mem_of_all_decide (by decide +kernel) :
    ∀ a ∈ argRefs, ¬ (Proc.devRef .tc a : DevRef τ sig).isScoped) a ha)

/-- The frame, at every instance. -/
theorem frame : Framed F := fun m ρ _ =>
  (θ_run defs _ _).mono (fun r h => ⟨fun c => by
    have key : ∀ a ∈ argRefs, r.2.mem ((c.tc : Thread nD τ).loc a) = m ((c.tc : Thread nD τ).loc a) :=
      fun a ha => (h.1 c _ (args_uc a ha)).trans (W7_args m ρ c a ha)
    refine ⟨?_, ?_, ?_, ?_, ?_, ?_, ?_, ?_, ?_, ?_, ?_, ?_, ?_, ?_, ?_, ?_, ?_, ?_, ?_, ?_, ?_, ?_, ?_, ?_, ?_, ?_, ?_⟩ <;>
      exact key _ (by decide), h.2⟩) (run m ρ)

end Cert.KernelIdeal.Launched

end
-- ==== Proof.Entry.lean ====
module

public import proofs.«01_k».proof.Proof.KernelRun
public import Idealize.ShloMosaic.Lib.Claim
public import Idealize.ShloMosaic.Lib.Pointwise

/-! What the first launch finds in the arrays the host prepares, from the program's arguments. -/

@[expose] public section
set_option maxRecDepth 16384
noncomputable section
open Idealize.ShloMosaic Idealize.ShloMosaic.TcCoe Idealize.SL.Sem
namespace Cert.KernelIdeal.Value
open Cert.KernelIdeal Cert.KernelIdeal.Gen Cert.KernelIdeal.Launched

variable (m : (ℓ : Loc nD τ sig) → Buf (Elt Ideal) ℓ) (ρ : Dev nD → PrngReg)

set_option maxHeartbeats 2000000 in
/-- The host's reshaped operands, entry by entry: the features without their leading axis, the two
upper blocks of the pair weights, and each vector as a row or a column. -/
theorem entry (c : Dev nD) :
    (∀ (i : Fin 384) (d : Fin 640), V3 m ρ c main_v0 (ix2 i d) = m ((c : Thread nD τ).loc main_arg0) (ix3 0 i d))
    ∧ (∀ (d : Fin 640) (k : Fin 512), V3 m ρ c main_v1 (ix2 d k)
        = m ((c : Thread nD τ).loc main_arg19) (ix2 ⟨d.val, by omega⟩ k))
    ∧ (∀ (d : Fin 640) (k : Fin 512), V3 m ρ c main_v2 (ix2 d k)
        = m ((c : Thread nD τ).loc main_arg19) (ix2 ⟨640 + d.val, by omega⟩ k))
    ∧ (∀ k : Fin 320, V3 m ρ c main_v5 (ix2 0 k) = m ((c : Thread nD τ).loc main_arg2) (ix1 k))
    ∧ (∀ k : Fin 320, V3 m ρ c main_v6 (ix2 0 k) = m ((c : Thread nD τ).loc main_arg3) (ix1 k))
    ∧ (∀ k : Fin 320, V3 m ρ c main_v7 (ix2 0 k) = m ((c : Thread nD τ).loc main_arg4) (ix1 k))
    ∧ (∀ k : Fin 160, V3 m ρ c main_v8 (ix2 0 k) = m ((c : Thread nD τ).loc main_arg6) (ix1 k))
    ∧ (∀ k : Fin 160, V3 m ρ c main_v9 (ix2 0 k) = m ((c : Thread nD τ).loc main_arg7) (ix2 k 0))
    ∧ (V3 m ρ c main_v10 (ix2 0 0) = m ((c : Thread nD τ).loc main_arg8) (ix1 0))
    ∧ (∀ k : Fin 160, V3 m ρ c main_v11 (ix2 0 k) = m ((c : Thread nD τ).loc main_arg10) (ix1 k))
    ∧ (∀ k : Fin 160, V3 m ρ c main_v12 (ix2 0 k) = m ((c : Thread nD τ).loc main_arg11) (ix2 k 0))
    ∧ (V3 m ρ c main_v13 (ix2 0 0) = m ((c : Thread nD τ).loc main_arg12) (ix1 0))
    ∧ (∀ k : Fin 512, V3 m ρ c main_v14 (ix2 0 k) = m ((c : Thread nD τ).loc main_arg14) (ix1 k))
    ∧ (∀ k : Fin 512, V3 m ρ c main_v15 (ix2 0 k) = m ((c : Thread nD τ).loc main_arg15) (ix1 k))
    ∧ (∀ k : Fin 512, V3 m ρ c main_v16 (ix2 0 k) = m ((c : Thread nD τ).loc main_arg16) (ix1 k))
    ∧ (∀ k : Fin 384, V3 m ρ c main_v17 (ix2 0 k) = m ((c : Thread nD τ).loc main_arg18) (ix1 k))
    ∧ (∀ k : Fin 512, V3 m ρ c main_v18 (ix2 0 k) = m ((c : Thread nD τ).loc main_arg20) (ix1 k))
    ∧ (∀ k : Fin 512, V3 m ρ c main_v19 (ix2 k 0) = m ((c : Thread nD τ).loc main_arg21) (ix1 k))
    ∧ (∀ k : Fin 512, V3 m ρ c main_v20 (ix2 0 k) = m ((c : Thread nD τ).loc main_arg22) (ix1 k))
    ∧ (∀ k : Fin 256, V3 m ρ c main_v21 (ix2 0 k) = m ((c : Thread nD τ).loc main_arg24) (ix1 k)) := by
  refine ⟨?_, ?_, ?_, ?_, ?_, ?_, ?_, ?_, ?_, ?_, ?_, ?_, ?_, ?_, ?_, ?_, ?_, ?_, ?_, ?_⟩
  all_goals
    intros
    dsimp only [V3, W3, W2, W1, hostOps0_2, hostOps0_1, hostOps0]
    after_results
    pointwise

/-- The lowest block of the pair weights, padded: its four rows keep their place. -/
theorem entry_wc (c : Dev nD) (k : Fin 512) :
    V3 m ρ c main_v4 (ix2 0 k) = m ((c : Thread nD τ).loc main_arg19) (ix2 1280 k)
    ∧ V3 m ρ c main_v4 (ix2 1 k) = m ((c : Thread nD τ).loc main_arg19) (ix2 1281 k)
    ∧ V3 m ρ c main_v4 (ix2 2 k) = m ((c : Thread nD τ).loc main_arg19) (ix2 1282 k)
    ∧ V3 m ρ c main_v4 (ix2 3 k) = m ((c : Thread nD τ).loc main_arg19) (ix2 1283 k) := by
  refine ⟨?_, ?_, ?_, ?_⟩
  all_goals
    dsimp only [V3, W3, W2, W1, hostOps0_2, hostOps0_1, hostOps0]
    after_results
    simp only [StableHlo.TRef.toBuf, StableHlo.TRef.ofBuf, cast_eq]
    pointwise

end Cert.KernelIdeal.Value
end
-- ==== Proof.Spec.lean ====
module

public import Idealize.ShloMosaic.Lib.Pointwise

/-! The mathematics of the network, row by row, over extended reals: no array, no launch. -/

@[expose] public section
noncomputable section
open Idealize.ShloMosaic
namespace Cert.Heads

/-- The width of a shared row, as the number both programs divide by. -/
def n320 : EReal := Ideal.ofBits .f32 1134559232#32
/-- The width of a hidden row, as the number both programs divide by. -/
def n512 : EReal := Ideal.ofBits .f32 1140850688#32
/-- The small number a normalisation adds under its root. -/
def eps : EReal := Ideal.ofBits .f32 925353388#32

/-- The rectifier. -/
def rect (x : EReal) : EReal := max x 0

/-- One entry of a row through an affine layer. -/
def affine {n p : ℕ} (x : Fin n → EReal) (W : Fin n → Fin p → EReal) (b : Fin p → EReal)
    (k : Fin p) : EReal := ∑ d, x d * W d k + b k

/-- One entry of a rectified affine layer. -/
def hidden {n p : ℕ} (x : Fin n → EReal) (W : Fin n → Fin p → EReal) (b : Fin p → EReal)
    (k : Fin p) : EReal := rect (affine x W b k)

/-- The mean of a row, `N` being its width. -/
def mean {n : ℕ} (N : EReal) (r : Fin n → EReal) : EReal := Ideal.div (∑ k, r k) N

/-- The mean of the squared distances to the mean. -/
def spread {n : ℕ} (N : EReal) (r : Fin n → EReal) : EReal :=
  Ideal.div (∑ k, (r k - mean N r) * (r k - mean N r)) N

/-- A normalised row as the reference writes it: a quotient by a root. -/
def layer {n : ℕ} (N : EReal) (r g e : Fin n → EReal) (k : Fin n) : EReal :=
  Ideal.div (r k - mean N r) (Ideal.sqrt (spread N r + eps)) * g k + e k

/-- A normalised row as the kernel writes it: a product with a reciprocal root. -/
def quick {n : ℕ} (N : EReal) (r g e : Fin n → EReal) (k : Fin n) : EReal :=
  (r k - mean N r) * Ideal.rsqrt (spread N r + eps) * g k + e k

/-- A reactivity: a hidden layer weighed into one number. -/
def head {n p : ℕ} (r : Fin n → EReal) (W : Fin n → Fin p → EReal) (b w : Fin p → EReal)
    (c : EReal) : EReal := ∑ k, hidden r W b k * w k + c

/-- The reciprocal of the hidden width, as the pair kernel multiplies by it. -/
def inv512 : EReal := Ideal.ofBits .f32 989855744#32

/-- The pair kernel's normalisation, folded into the layer that follows it: `A` holds that layer's
weights times the gains, `u` their column sums, `c` what the offsets contribute. -/
def folded {n p : ℕ} (r : Fin n → EReal) (A : Fin n → Fin p → EReal) (u c : Fin p → EReal)
    (k : Fin p) : EReal :=
  rect (Ideal.rsqrt ((∑ d, r d * r d) * inv512 - (∑ d, r d) * inv512 * ((∑ d, r d) * inv512) + eps)
      * (∑ d, r d * A d k - (∑ d, r d) * inv512 * u k) + c k)

/-- The network's inputs, entry by entry: the features, then each layer's weights, offsets and
gains. -/
structure Inputs where
  /-- the features of a position -/
  x : Fin 384 → Fin 640 → EReal
  /-- shared layer: weights -/
  spw : Fin 640 → Fin 320 → EReal
  /-- shared layer: offsets -/
  spb : Fin 320 → EReal
  /-- shared layer: gains of the normalisation -/
  spg : Fin 320 → EReal
  /-- shared layer: offsets of the normalisation -/
  spe : Fin 320 → EReal
  /-- first reactivity: hidden weights -/
  dw1 : Fin 320 → Fin 160 → EReal
  /-- first reactivity: hidden offsets -/
  db1 : Fin 160 → EReal
  /-- first reactivity: final weights -/
  dw2 : Fin 160 → EReal
  /-- first reactivity: final offset -/
  db2 : EReal
  /-- second reactivity: hidden weights -/
  sw1 : Fin 320 → Fin 160 → EReal
  /-- second reactivity: hidden offsets -/
  sb1 : Fin 160 → EReal
  /-- second reactivity: final weights -/
  sw2 : Fin 160 → EReal
  /-- second reactivity: final offset -/
  sb2 : EReal
  /-- single head: hidden weights -/
  tw1 : Fin 640 → Fin 512 → EReal
  /-- single head: hidden offsets -/
  tb1 : Fin 512 → EReal
  /-- single head: gains of the normalisation -/
  tg : Fin 512 → EReal
  /-- single head: offsets of the normalisation -/
  te : Fin 512 → EReal
  /-- single head: final weights -/
  tw2 : Fin 512 → Fin 384 → EReal
  /-- single head: final offsets -/
  tb2 : Fin 384 → EReal
  /-- pair head: first weights, for both positions and the four pair features -/
  pw1 : Fin 1284 → Fin 512 → EReal
  /-- pair head: first offsets -/
  pb1 : Fin 512 → EReal
  /-- pair head: gains of the normalisation -/
  pg : Fin 512 → EReal
  /-- pair head: offsets of the normalisation -/
  pe : Fin 512 → EReal
  /-- pair head: second weights -/
  pw2 : Fin 512 → Fin 256 → EReal
  /-- pair head: second offsets -/
  pb2 : Fin 256 → EReal
  /-- pair head: final weights -/
  pw3 : Fin 256 → Fin 128 → EReal
  /-- pair head: final offsets -/
  pb3 : Fin 128 → EReal

namespace Inputs
variable (I : Inputs)

/-- The shared row of a position. -/
def shared (i : Fin 384) : Fin 320 → EReal := layer n320 (hidden (I.x i) I.spw I.spb) I.spg I.spe

/-- The first reactivity of a position. -/
def dms (i : Fin 384) : EReal := head (I.shared i) I.dw1 I.db1 I.dw2 I.db2

/-- The second reactivity of a position. -/
def shape (i : Fin 384) : EReal := head (I.shared i) I.sw1 I.sb1 I.sw2 I.sb2

/-- The single representation of a position. -/
def single (i : Fin 384) : Fin 384 → EReal :=
  affine (layer n512 (hidden (I.x i) I.tw1 I.tb1) I.tg I.te) I.tw2 I.tb2

/-- A position's features through the first block of the pair weights. -/
def first (i : Fin 384) (k : Fin 512) : EReal := ∑ a : Fin 640, I.x i a * I.pw1 ⟨a.val, by omega⟩ k

/-- A position's features through the second block of the pair weights. -/
def second (i : Fin 384) (k : Fin 512) : EReal :=
  ∑ a : Fin 640, I.x i a * I.pw1 ⟨640 + a.val, by omega⟩ k

/-- The four pair features through the last rows of the pair weights. -/
def chem (i j : Fin 384) (k : Fin 512) : EReal :=
  (I.dms i - I.dms j) * I.pw1 1280 k + I.dms i * I.dms j * I.pw1 1281 k
    + (I.shape i - I.shape j) * I.pw1 1282 k + I.shape i * I.shape j * I.pw1 1283 k

/-- The first hidden row of a pair. -/
def link (i j : Fin 384) (k : Fin 512) : EReal :=
  rect (I.first i k + I.second j k + I.chem i j k + I.pb1 k)

/-- The pair representation. -/
def pair (i j : Fin 384) : Fin 128 → EReal :=
  affine (hidden (layer n512 (I.link i j) I.pg I.pe) I.pw2 I.pb2) I.pw3 I.pb3

end Inputs

end Cert.Heads
end
-- ==== Proof.KernelRead.lean ====
module

public import proofs.«01_k».proof.Proof.Spec
public import proofs.«01_k».proof.Proof.Gen.KernelIdeal
public import proofs.«01_k».proof.Proof.Gen.KernelIdeal.Skeleton
public import Idealize.ShloMosaic.Lib.Pointwise

/-! What each stored value of the two launches is at one index. -/

@[expose] public section
set_option maxRecDepth 16384
noncomputable section
open Idealize.ShloMosaic Idealize.ShloMosaic.TcCoe Idealize.SL.Sem
namespace Cert.KernelIdeal.Value
open Cert.KernelIdeal Cert.KernelIdeal.Gen Cert.Heads

/-- A shared row: a rectified layer of the features, normalised. -/
theorem shared_at (x : FVec Ideal S384x640 .f32) (w : FVec Ideal S640x320 .f32)
    (b g e : FVec Ideal S1x320 .f32) (i : Fin 384) (k : Fin 320) :
    k0_pay7 (F := Ideal) x w b g e (ix2 i k)
      = quick n320 (hidden (fun d => x (ix2 i d)) (fun d k => w (ix2 d k)) fun k => b (ix2 0 k))
          (fun k => g (ix2 0 k)) (fun k => e (ix2 0 k)) k := by
  pointwise [k0_pay7, k0_pay6]
  rfl

/-- The first reactivity of a row. -/
theorem d_at (x : FVec Ideal S384x640 .f32) (w : FVec Ideal S640x320 .f32)
    (b g e : FVec Ideal S1x320 .f32) (w1 : FVec Ideal S320x160 .f32)
    (b1 w2 : FVec Ideal S1x160 .f32) (b2 : FVec Ideal S1x1 .f32) (i : Fin 384) :
    k0_pay10 (F := Ideal) (k0_pay8 x w b g e w1) (k0_pay9 b1) w2 b2 (ix2 i 0)
      = head (quick n320
            (hidden (fun d => x (ix2 i d)) (fun d k => w (ix2 d k)) fun k => b (ix2 0 k))
            (fun k => g (ix2 0 k)) fun k => e (ix2 0 k))
          (fun d k => w1 (ix2 d k)) (fun k => b1 (ix2 0 k)) (fun k => w2 (ix2 0 k))
          (b2 (ix2 0 0)) := by
  pointwise [k0_pay10, k0_pay8, k0_pay9, k0_pay7, k0_pay6]
  rfl

/-- The second reactivity of a row. -/
theorem s_at (x : FVec Ideal S384x640 .f32) (w : FVec Ideal S640x320 .f32)
    (b g e : FVec Ideal S1x320 .f32) (w1 : FVec Ideal S320x160 .f32)
    (b1 w2 : FVec Ideal S1x160 .f32) (b2 : FVec Ideal S1x1 .f32) (i : Fin 384) :
    k0_pay11 (F := Ideal) (k0_pay7 x w b g e) w1 b1 w2 b2 (ix2 i 0)
      = head (quick n320
            (hidden (fun d => x (ix2 i d)) (fun d k => w (ix2 d k)) fun k => b (ix2 0 k))
            (fun k => g (ix2 0 k)) fun k => e (ix2 0 k))
          (fun d k => w1 (ix2 d k)) (fun k => b1 (ix2 0 k)) (fun k => w2 (ix2 0 k))
          (b2 (ix2 0 0)) := by
  pointwise [k0_pay11, k0_pay7, k0_pay6]
  rfl

/-- The single representation of a row. -/
theorem single_at (x : FVec Ideal S384x640 .f32) (w : FVec Ideal S640x512 .f32)
    (b g e : FVec Ideal S1x512 .f32) (w2 : FVec Ideal S512x384 .f32) (b2 : FVec Ideal S1x384 .f32)
    (i k : Fin 384) :
    k0_pay13 (F := Ideal) (k0_pay12 (k0_pay6 x) w b) g e w2 b2 (ix3 0 i k)
      = affine (quick n512
            (hidden (fun d => x (ix2 i d)) (fun d k => w (ix2 d k)) fun k => b (ix2 0 k))
            (fun k => g (ix2 0 k)) (fun k => e (ix2 0 k)))
          (fun d k => w2 (ix2 d k)) (fun k => b2 (ix2 0 k)) k := by
  pointwise [k0_pay13, k0_pay12, k0_pay6]
  rfl

/-- What a row brings to the pairs it comes first in. -/
theorem ai_at (x : FVec Ideal S384x640 .f32) (d s : FVec Ideal S384x1 .f32)
    (w : FVec Ideal S640x512 .f32) (c : FVec Ideal S8x512 .f32) (i : Fin 384) (k : Fin 512) :
    k0_pay17 (F := Ideal) d s (k0_pay14 (k0_pay6 x) w) c (ix2 i k)
      = (∑ a, x (ix2 i a) * w (ix2 a k)) + (d (ix2 i 0) * c (ix2 0 k) + s (ix2 i 0) * c (ix2 2 k)) := by
  pointwise [k0_pay17, k0_pay14, k0_pay16, k0_pay15, k0_pay6]

/-- What a row brings to the pairs it comes second in. -/
theorem bj_at (x : FVec Ideal S384x640 .f32) (d s : FVec Ideal S384x1 .f32)
    (w : FVec Ideal S640x512 .f32) (c : FVec Ideal S8x512 .f32) (b : FVec Ideal S1x512 .f32)
    (i : Fin 384) (k : Fin 512) :
    k0_pay18 (F := Ideal) (k0_pay6 x) d s w c b (ix2 i k)
      = (∑ a, x (ix2 i a) * w (ix2 a k)) - (d (ix2 i 0) * c (ix2 0 k) + s (ix2 i 0) * c (ix2 2 k))
          + b (ix2 0 k) := by
  pointwise [k0_pay18, k0_pay16, k0_pay15, k0_pay6]

/-- The factor of the product of first reactivities. -/
theorem d1_at (d : FVec Ideal S384x1 .f32) (c : FVec Ideal S8x512 .f32) (i : Fin 384)
    (k : Fin 512) : k0_pay19 (F := Ideal) d c (ix2 i k) = d (ix2 i 0) * c (ix2 1 k) := by
  pointwise [k0_pay19, k0_pay15]

/-- The factor of the product of second reactivities. -/
theorem s1_at (d : FVec Ideal S384x1 .f32) (c : FVec Ideal S8x512 .f32) (i : Fin 384)
    (k : Fin 512) : k0_pay20 (F := Ideal) d c (ix2 i k) = d (ix2 i 0) * c (ix2 3 k) := by
  pointwise [k0_pay20, k0_pay15]

/-- The left half of the paired columns repeats the first reactivity. -/
theorem dsc_left (d s : FVec Ideal S384x1 .f32) (i : Fin 384) :
    k0_pay1 (F := Ideal) d s (ix2 i 0) = d (ix2 i 0) := by
  pointwise [k0_pay1]

/-- The right half of the paired columns repeats the second reactivity. -/
theorem dsc_right (d s : FVec Ideal S384x1 .f32) (i : Fin 384) :
    k0_pay1 (F := Ideal) d s (ix2 i 128) = s (ix2 i 0) := by
  pointwise [k0_pay1]

/-- The weights with the gains folded in. -/
theorem w2a_at (w : FVec Ideal S512x256 .f32) (g : FVec Ideal S512x1 .f32) (i : Fin 512)
    (k : Fin 256) : k0_pay3 (F := Ideal) w g (ix2 i k) = (w (ix2 i k) * g (ix2 i 0) : EReal) := by
  pointwise [k0_pay3, k0_pay2]

/-- The column sums of the folded weights. -/
theorem u_at (w : FVec Ideal S512x256 .f32) (g : FVec Ideal S512x1 .f32) (k : Fin 256) :
    k0_pay4 (F := Ideal) w g (ix2 0 k) = (∑ d, w (ix2 d k) * g (ix2 d 0) : EReal) := by
  pointwise [k0_pay4, k0_pay2]

/-- What the offsets contribute. -/
theorem cw2_at (w : FVec Ideal S512x256 .f32) (e : FVec Ideal S1x512 .f32)
    (b : FVec Ideal S1x256 .f32) (k : Fin 256) :
    k0_pay5 (F := Ideal) w e b (ix2 0 k)
      = ((∑ d, e (ix2 0 d) * w (ix2 d k)) + b (ix2 0 k) : EReal) := by
  pointwise [k0_pay5]

/-- One entry of a tile of pairs. -/
theorem pair_at (x0 x1 x2 : FVec Ideal S96x512 .bf16) (x3 : FVec Ideal S128x512 .bf16)
    (dj sj : FVec Ideal S128x1 .f32) (x5 : FVec Ideal S512x256 .bf16)
    (x6 x7 : FVec Ideal S1x256 .f32) (x8 : FVec Ideal S256x128 .f32) (x9 : FVec Ideal S1x128 .f32)
    (i : Fin 96) (j k : Fin 128) :
    k1_pay1 (F := Ideal) (k1_pay3 x0 x3 dj sj x1 x2 x5) (k1_pay5 x0 x3 dj sj x1 x2)
        (k1_pay6 x0 x3 dj sj x1 x2) x6 x7 x8 x9 (ix4 0 i j k)
      = affine (folded
            (fun d => rect (x0 (ix2 i d) + x3 (ix2 j d) + x1 (ix2 i d) * dj (ix2 j 0)
              + x2 (ix2 i d) * sj (ix2 j 0)))
            (fun d k => x5 (ix2 d k)) (fun k => x6 (ix2 0 k)) fun k => x7 (ix2 0 k))
          (fun d k => x8 (ix2 d k)) (fun k => x9 (ix2 0 k)) k := by
  pointwise [k1_pay1, k1_pay3, k1_pay5, k1_pay6, k1_pay4, k1_pay2]
  rfl

end Cert.KernelIdeal.Value
end
-- ==== Proof.Blocks0.lean ====
module

public import proofs.«01_k».proof.Proof.KernelBody
public import proofs.«01_k».proof.Proof.KernelRead
public import Idealize.ShloMosaic.Lib.Pipeline.ValueKit

/-! The first launch has one grid point: each block it reads is a whole array. -/

@[expose] public section
set_option maxRecDepth 16384
noncomputable section
open Idealize.ShloMosaic Idealize.ShloMosaic.TcCoe Idealize.SL.Sem
namespace Cert.KernelIdeal.Value
open Cert.KernelIdeal Cert.KernelIdeal.Gen Cert.KernelIdeal.Launched Cert.Heads

variable (V : (c : Dev nD) → (b : Ref sig .tc) → Buf (Elt Ideal) ((c : Thread nD τ).loc b))

set_option synthInstance.maxSize 4000 in
set_option synthInstance.maxHeartbeats 400000 in
/-- Every input block of the only grid point starts at the origin. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] ∧ win0_24.index t = ![0, 0] ∧ win0_25.index t = ![0, 0] ∧ win0_26.index t = ![0, 0] :=
  (by decide +kernel : ∀ t : Fin grid0.N, _)

/-- Every input block is its whole array. -/
theorem blocks0 (c : Dev nD) : iblk0 V c 0 t0_0 = V c main_v0
    ∧ iblk0 V c 1 t0_0 = V c main_arg1
    ∧ iblk0 V c 2 t0_0 = V c main_v5
    ∧ iblk0 V c 3 t0_0 = V c main_v6
    ∧ iblk0 V c 4 t0_0 = V c main_v7
    ∧ iblk0 V c 5 t0_0 = V c main_arg5
    ∧ iblk0 V c 6 t0_0 = V c main_v8
    ∧ iblk0 V c 7 t0_0 = V c main_v9
    ∧ iblk0 V c 8 t0_0 = V c main_v10
    ∧ iblk0 V c 9 t0_0 = V c main_arg9
    ∧ iblk0 V c 10 t0_0 = V c main_v11
    ∧ iblk0 V c 11 t0_0 = V c main_v12
    ∧ iblk0 V c 12 t0_0 = V c main_v13
    ∧ iblk0 V c 13 t0_0 = V c main_arg13
    ∧ iblk0 V c 14 t0_0 = V c main_v14
    ∧ iblk0 V c 15 t0_0 = V c main_v15
    ∧ iblk0 V c 16 t0_0 = V c main_v16
    ∧ iblk0 V c 17 t0_0 = V c main_arg17
    ∧ iblk0 V c 18 t0_0 = V c main_v17
    ∧ iblk0 V c 19 t0_0 = V c main_v1
    ∧ iblk0 V c 20 t0_0 = V c main_v2
    ∧ iblk0 V c 21 t0_0 = V c main_v4
    ∧ iblk0 V c 22 t0_0 = V c main_v18
    ∧ iblk0 V c 23 t0_0 = V c main_v19
    ∧ iblk0 V c 24 t0_0 = V c main_v20
    ∧ iblk0 V c 25 t0_0 = V c main_arg23
    ∧ iblk0 V c 26 t0_0 = V c main_v21 := by
  refine ⟨?_, ?_, ?_, ?_, ?_, ?_, ?_, ?_, ?_, ?_, ?_, ?_, ?_, ?_, ?_, ?_, ?_, ?_, ?_, ?_, ?_, ?_, ?_, ?_, ?_, ?_, ?_⟩
  all_goals blk_ext! [iblk0, idx0 t0_0]
end Cert.KernelIdeal.Value
end
-- ==== Proof.Region0.lean ====
module

public import proofs.«01_k».proof.Proof.Blocks0
public import Idealize.ShloMosaic.Lib.Pipeline.ValueKit

/-! What the first launch leaves in each array it writes, from the arrays it is entered with. -/

@[expose] public section
set_option maxRecDepth 16384
noncomputable section
open Idealize.ShloMosaic Idealize.ShloMosaic.TcCoe Idealize.SL.Sem
namespace Cert.KernelIdeal.Value
open Cert.KernelIdeal Cert.KernelIdeal.Gen Cert.KernelIdeal.Launched Cert.Heads

variable (V : (c : Dev nD) → (b : Ref sig .tc) → Buf (Elt Ideal) ((c : Thread nD τ).loc b))

/-- The first reactivity, as the launch computes it from its arrays. -/
abbrev dOf (c : Dev nD) : FVec Ideal S384x1 .f32 :=
  k0_pay10 (F := Ideal) (k0_pay8 (V c main_v0) (V c main_arg1) (V c main_v5) (V c main_v6) (V c main_v7)
    (V c main_arg5)) (k0_pay9 (V c main_v8)) (V c main_v9) (V c main_v10)

/-- The second reactivity, as the launch computes it from its arrays. -/
abbrev sOf (c : Dev nD) : FVec Ideal S384x1 .f32 :=
  k0_pay11 (F := Ideal) (k0_pay7 (V c main_v0) (V c main_arg1) (V c main_v5) (V c main_v6) (V c main_v7))
    (V c main_arg9) (V c main_v11) (V c main_v12) (V c main_v13)

set_option maxHeartbeats 2000000 in
/-- The eleven arrays the launch writes: the single representation, both reactivities, what a row
brings to its pairs as their first and as their second, the factors of both products, the paired
columns, the folded weights, their column sums, and what the offsets contribute. -/
theorem finals0 (c : Dev nD) :
    (dat0 V c).arrAt 27 cfg0.N
        = k0_pay13 (F := Ideal) (k0_pay12 (k0_pay6 (V c main_v0)) (V c main_arg13) (V c main_v14)) (V c main_v15)
        (V c main_v16) (V c main_arg17) (V c main_v17)
    ∧ (dat0 V c).arrAt 28 cfg0.N
        = dOf V c
    ∧ (dat0 V c).arrAt 29 cfg0.N
        = sOf V c
    ∧ (dat0 V c).arrAt 30 cfg0.N
        = k0_pay17 (F := Ideal) (dOf V c) (sOf V c) (k0_pay14 (k0_pay6 (V c main_v0)) (V c main_v1)) (V c main_v4)
    ∧ (dat0 V c).arrAt 31 cfg0.N
        = k0_pay18 (F := Ideal) (k0_pay6 (V c main_v0)) (dOf V c) (sOf V c) (V c main_v2) (V c main_v4) (V c main_v18)
    ∧ (dat0 V c).arrAt 32 cfg0.N
        = k0_pay19 (F := Ideal) (dOf V c) (V c main_v4)
    ∧ (dat0 V c).arrAt 33 cfg0.N
        = k0_pay20 (F := Ideal) (sOf V c) (V c main_v4)
    ∧ (dat0 V c).arrAt 34 cfg0.N
        = k0_pay1 (F := Ideal) (dOf V c) (sOf V c)
    ∧ (dat0 V c).arrAt 35 cfg0.N
        = k0_pay3 (F := Ideal) (V c main_arg23) (V c main_v19)
    ∧ (dat0 V c).arrAt 36 cfg0.N
        = k0_pay4 (F := Ideal) (V c main_arg23) (V c main_v19)
    ∧ (dat0 V c).arrAt 37 cfg0.N
        = k0_pay5 (F := Ideal) (V c main_arg23) (V c main_v20) (V c main_v21) := by
  refine ⟨?_, ?_, ?_, ?_, ?_, ?_, ?_, ?_, ?_, ?_, ?_⟩
  all_goals
    refine (dat0 V c).arrAt_eq_of_after_last _ t0_0 (by decide +kernel) _ fun j => ?_
    blk_simp
    simp only [after0_27, after0_28, after0_29, after0_30, after0_31, after0_32, after0_33, after0_34, after0_35, after0_36, after0_37]
    frame_out
    try simp only [k0_pay21, k0_pay22, k0_pay23]
    try frame_out
    simp only [blocks0 V c]

end Cert.KernelIdeal.Value
end
-- ==== Proof.Region1.lean ====
module

public import proofs.«01_k».proof.Proof.KernelBody
public import proofs.«01_k».proof.Proof.KernelRead
public import Idealize.ShloMosaic.Lib.Pipeline.ValueKit

/-! What the second launch leaves in the pair array, from the arrays it is entered with. -/

@[expose] public section
set_option maxRecDepth 16384
noncomputable section
open Idealize.ShloMosaic Idealize.ShloMosaic.TcCoe Idealize.SL.Sem
namespace Cert.KernelIdeal.Value
open Cert.KernelIdeal Cert.KernelIdeal.Gen Cert.KernelIdeal.Launched Cert.Heads

variable (V : (c : Dev nD) → (b : Ref sig .tc) → Buf (Elt Ideal) ((c : Thread nD τ).loc b))

/-- Where each block of a grid point lies. -/
theorem idx1 : ∀ t : Fin cfg1.N,
    win1_0.index t = ![(grid1.coords t 0).val, 0] ∧ win1_1.index t = ![(grid1.coords t 0).val, 0]
    ∧ win1_2.index t = ![(grid1.coords t 0).val, 0] ∧ win1_3.index t = ![(grid1.coords t 1).val, 0]
    ∧ win1_4.index t = ![(grid1.coords t 1).val, 0] ∧ win1_5.index t = ![0, 0]
    ∧ win1_6.index t = ![0, 0] ∧ win1_7.index t = ![0, 0] ∧ win1_8.index t = ![0, 0]
    ∧ win1_9.index t = ![0, 0]
    ∧ win1_10.index t = ![0, (grid1.coords t 0).val, (grid1.coords t 1).val, 0] :=
  (by decide +kernel : ∀ t : Fin grid1.N, _)

/-- The pair array as a function of the arrays the launch reads. -/
def pairs (a d1 s1 bj : FVec Ideal S384x512 .bf16) (ds : FVec Ideal S384x256 .f32)
    (A : FVec Ideal S512x256 .bf16) (u cw : FVec Ideal S1x256 .f32) (w3 : FVec Ideal S256x128 .f32)
    (b3 : FVec Ideal S1x128 .f32) : FVec Ideal S1x384x384x128 .f32 := fun y =>
  affine (folded
      (fun d => rect (a (ix2 (y 1) d) + bj (ix2 (y 2) d) + d1 (ix2 (y 1) d) * ds (ix2 (y 2) 0)
        + s1 (ix2 (y 1) d) * ds (ix2 (y 2) 128)))
      (fun d k => A (ix2 d k)) (fun k => u (ix2 0 k)) fun k => cw (ix2 0 k))
    (fun d k => w3 (ix2 d k)) (fun k => b3 (ix2 0 k)) (y 3)

/-- What the second launch leaves in the pair array. -/
theorem final_pair (c : Dev nD) : (dat1 V c).arrAt 10 cfg1.N
    = pairs (V c main_v22_3) (V c main_v22_5) (V c main_v22_6) (V c main_v22_4) (V c main_v22_7)
        (V c main_v22_8) (V c main_v22_9) (V c main_v22_10) (V c main_arg25) (V c main_v23) := by
  refine (dat1 V c).arrAt_eq_of_covers 10 _ (by decide +kernel) fun t _ y => ?_
  blk_simp
  rw [after1_10]
  frame_out
  idx_vars y
  pointwise [k1_pay1, k1_pay3, k1_pay5, k1_pay6, k1_pay4, k1_pay2, pairs, affine, folded, rect, inv512, eps]
  blk_point [iblk1, idx1 t]
end Cert.KernelIdeal.Value
end
-- ==== Proof.Maths.lean ====
module

public import proofs.«01_k».proof.Proof.Spec

/-! The two writings of the mathematics agree. -/

@[expose] public section
noncomputable section
open Idealize.ShloMosaic
namespace Cert.Heads

/-- The shared width as a real number. -/
theorem n320_real : n320 = ((320 : ℝ) : EReal) := by
  simp [n320, Ideal.ofBits, Ideal.ieee, -EReal.coe_mul]; norm_num

/-- The hidden width as a real number. -/
theorem n512_real : n512 = ((512 : ℝ) : EReal) := by
  simp [n512, Ideal.ofBits, Ideal.ieee, -EReal.coe_mul]; norm_num

/-- The shared width is positive. -/
theorem n320_pos : 0 < n320 := by rw [n320_real]; exact_mod_cast (by norm_num : (0 : ℝ) < 320)

/-- The hidden width is positive. -/
theorem n512_pos : 0 < n512 := by rw [n512_real]; exact_mod_cast (by norm_num : (0 : ℝ) < 512)

/-- Its reciprocal, exactly. -/
theorem inv512_real : inv512 = ((1 / 512 : ℝ) : EReal) := by
  simp [inv512, Ideal.ofBits, Ideal.ieee, -EReal.coe_mul]; norm_num

/-- The number under the root is a positive real. -/
theorem eps_real : ∃ e : ℝ, 0 < e ∧ eps = (e : EReal) := by
  refine ⟨10995116 / 2 ^ 40, by norm_num, ?_⟩
  simp [eps, Ideal.ofBits, Ideal.ieee, -EReal.coe_mul]; norm_num

/-- A square is not negative, at the infinities too. -/
theorem sq_nonneg' (x : EReal) : 0 ≤ x * x := by
  induction x with
  | bot => simp
  | top => simp
  | coe r => exact_mod_cast mul_self_nonneg r

/-- A mean of squares is not negative. -/
theorem spread_nonneg {n : ℕ} {N : ℝ} (hN : 0 < N) (r : Fin n → EReal) :
    0 ≤ spread (N : EReal) r := by
  unfold spread
  rw [Ideal.div_coe hN.ne']
  refine mul_nonneg (Finset.sum_nonneg fun k _ => sq_nonneg' _) ?_
  exact_mod_cast (one_div_pos.mpr hN).le

/-- The reciprocal root of a positive real. -/
theorem rsqrt_coe {v : ℝ} (hv : 0 < v) :
    Ideal.rsqrt (v : EReal) = (((Real.sqrt v)⁻¹ : ℝ) : EReal) :=
  (if_neg (not_lt.mpr hv.le)).trans (if_neg hv.ne')

/-- Over a positive number, a quotient by the root is a product with the reciprocal root. -/
theorem div_sqrt (x v : EReal) (hv : 0 < v) :
    Ideal.div x (Ideal.sqrt v) = x * Ideal.rsqrt v := by
  induction v with
  | bot => simp at hv
  | top =>
    show Ideal.div x ⊤ = x * 0
    simp [Ideal.div]
  | coe r =>
    have hr : 0 < r := by exact_mod_cast hv
    have hs : Real.sqrt r ≠ 0 := (Real.sqrt_pos.mpr hr).ne'
    have e : Ideal.sqrt (r : EReal) = ((Real.sqrt r : ℝ) : EReal) := if_neg (not_lt.mpr hr.le)
    rw [e, rsqrt_coe hr, Ideal.div_coe hs, one_div]

/-- Both writings of a normalised row agree, whatever the row holds. -/
theorem quick_eq_layer {n : ℕ} {N : ℝ} (hN : 0 < N) (r g e : Fin n → EReal) :
    quick (N : EReal) r g e = layer (N : EReal) r g e := by
  funext k
  obtain ⟨z, hz, hz'⟩ := eps_real
  have hv : 0 < spread (N : EReal) r + eps := by
    rw [hz']
    exact lt_of_lt_of_le (by exact_mod_cast hz) (le_add_of_nonneg_left (spread_nonneg hN r))
  unfold quick layer
  rw [div_sqrt _ _ hv]

/-- A number that is no infinity. -/
def IsReal (x : EReal) : Prop := ∃ r : ℝ, x = (r : EReal)

/-- A sum of two reals is real. -/
theorem IsReal.add {x y : EReal} : IsReal x → IsReal y → IsReal (x + y) := by
  rintro ⟨a, rfl⟩ ⟨b, rfl⟩; exact ⟨a + b, (EReal.coe_add a b).symm⟩

/-- A difference of two reals is real. -/
theorem IsReal.sub {x y : EReal} : IsReal x → IsReal y → IsReal (x - y) := by
  rintro ⟨a, rfl⟩ ⟨b, rfl⟩; exact ⟨a - b, (EReal.coe_sub a b).symm⟩

/-- A product of two reals is real. -/
theorem IsReal.mul {x y : EReal} : IsReal x → IsReal y → IsReal (x * y) := by
  rintro ⟨a, rfl⟩ ⟨b, rfl⟩; exact ⟨a * b, (EReal.coe_mul a b).symm⟩

/-- The rectifier on a real number. -/
theorem rect_coe (a : ℝ) : rect (a : EReal) = ((max a 0 : ℝ) : EReal) := by
  unfold rect
  rcases le_total a 0 with h | h
  · rw [max_eq_right h, max_eq_right (by exact_mod_cast h)]; rfl
  · rw [max_eq_left h, max_eq_left (by exact_mod_cast h)]

/-- The rectifier keeps a real real. -/
theorem IsReal.rect {x : EReal} : IsReal x → IsReal (rect x) := by
  rintro ⟨a, rfl⟩; exact ⟨_, rect_coe a⟩

/-- A finite sum of reals, cast. -/
theorem sum_coe {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

/-- Choosing the real numbers of a row of reals. -/
theorem real_row {n : ℕ} {x : Fin n → EReal} (h : ∀ k, IsReal (x k)) :
    ∃ r : Fin n → ℝ, x = fun k => (r k : EReal) :=
  ⟨fun k => (h k).choose, funext fun k => (h k).choose_spec⟩

/-- A finite sum of reals is real. -/
theorem IsReal.sum {n : ℕ} {x : Fin n → EReal} (h : ∀ k, IsReal (x k)) : IsReal (∑ k, x k) := by
  obtain ⟨r, rfl⟩ := real_row h
  exact ⟨_, sum_coe r⟩

/-- An affine layer keeps reals real. -/
theorem affine_real {n p : ℕ} {x : Fin n → EReal} {W : Fin n → Fin p → EReal} {b : Fin p → EReal}
    (hx : ∀ d, IsReal (x d)) (hW : ∀ d k, IsReal (W d k)) (hb : ∀ k, IsReal (b k)) (k : Fin p) :
    IsReal (affine x W b k) :=
  (IsReal.sum fun d => (hx d).mul (hW d k)).add (hb k)

/-- A hidden layer keeps reals real. -/
theorem hidden_real {n p : ℕ} {x : Fin n → EReal} {W : Fin n → Fin p → EReal} {b : Fin p → EReal}
    (hx : ∀ d, IsReal (x d)) (hW : ∀ d k, IsReal (W d k)) (hb : ∀ k, IsReal (b k)) (k : Fin p) :
    IsReal (hidden x W b k) := (affine_real hx hW hb k).rect

/-- The mean of a row of reals. -/
theorem mean_coe {n : ℕ} {N : ℝ} (hN : N ≠ 0) (r : Fin n → ℝ) :
    mean (N : EReal) (fun k => (r k : EReal)) = (((∑ k, r k) * (1 / N) : ℝ) : EReal) := by
  unfold mean
  rw [Ideal.div_coe hN, sum_coe, ← EReal.coe_mul]

/-- The spread of a row of reals. -/
theorem spread_coe {n : ℕ} {N : ℝ} (hN : N ≠ 0) (r : Fin n → ℝ) :
    spread (N : EReal) (fun k => (r k : EReal))
      = (((∑ k, (r k - (∑ d, r d) * (1 / N)) * (r k - (∑ d, r d) * (1 / N))) * (1 / N) : ℝ) : EReal) := by
  unfold spread
  simp only [mean_coe hN, ← EReal.coe_sub, ← EReal.coe_mul, sum_coe, Ideal.div_coe hN]

/-- A normalisation keeps reals real: the number under its root is positive. -/
theorem layer_real {n : ℕ} {N : ℝ} (hN : 0 < N) {r g e : Fin n → EReal}
    (hr : ∀ k, IsReal (r k)) (hg : ∀ k, IsReal (g k)) (he : ∀ k, IsReal (e k)) (k : Fin n) :
    IsReal (layer (N : EReal) r g e k) := by
  rw [← quick_eq_layer hN]
  have hv := spread_nonneg hN r
  obtain ⟨z, hz, hz'⟩ := eps_real
  obtain ⟨r, rfl⟩ := real_row hr
  unfold quick
  rw [spread_coe hN.ne'] at hv ⊢
  rw [mean_coe hN.ne', hz', ← EReal.coe_add,
    rsqrt_coe (add_pos_of_nonneg_of_pos (by exact_mod_cast hv) hz)]
  exact ((((hr k).sub ⟨_, rfl⟩).mul ⟨_, rfl⟩).mul (hg k)).add (he k)

/-- A reactivity of reals is real. -/
theorem head_real {n p : ℕ} {r : Fin n → EReal} {W : Fin n → Fin p → EReal} {b w : Fin p → EReal}
    {c : EReal} (hr : ∀ d, IsReal (r d)) (hW : ∀ d k, IsReal (W d k)) (hb : ∀ k, IsReal (b k))
    (hw : ∀ k, IsReal (w k)) (hc : IsReal c) : IsReal (head r W b w c) :=
  (IsReal.sum fun k => (hidden_real hr hW hb k).mul (hw k)).add hc

/-- The mean of squares less the squared mean is the spread. -/
theorem spread_split {n : ℕ} {N : ℝ} (hN : N ≠ 0) (hn : (n : ℝ) = N) (r : Fin n → ℝ) :
    (∑ k, r k * r k) * (1 / N) - (∑ k, r k) * (1 / N) * ((∑ k, r k) * (1 / N))
      = (∑ k, (r k - (∑ d, r d) * (1 / N)) * (r k - (∑ d, r d) * (1 / N))) * (1 / N) := by
  have e : ∀ m : ℝ, ∑ k, (r k - m) * (r k - m)
      = ∑ k, r k * r k - 2 * m * ∑ k, r k + N * (m * m) := by
    intro m
    rw [Finset.mul_sum, ← Finset.sum_sub_distrib, ← hn]
    rw [show (n : ℝ) * (m * m) = ∑ _k : Fin n, m * m by simp, ← Finset.sum_add_distrib]
    exact Finset.sum_congr rfl fun k _ => by ring
  rw [e]
  field_simp
  ring

/-- The folded normalisation is the layer applied to the normalised row, for a row, gains, offsets
and weights that are real; the last addend may be anything. -/
theorem folded_eq {p : ℕ} {r g e : Fin 512 → EReal} {W : Fin 512 → Fin p → EReal}
    (b : Fin p → EReal) (hr : ∀ k, IsReal (r k)) (hg : ∀ k, IsReal (g k)) (he : ∀ k, IsReal (e k))
    (hW : ∀ d k, IsReal (W d k)) (k : Fin p) :
    folded r (fun d k => W d k * g d) (fun k => ∑ d, W d k * g d)
        (fun k => (∑ d, e d * W d k) + b k) k
      = hidden (layer n512 r g e) W b k := by
  have hN : (0 : ℝ) < 512 := by norm_num
  have hv := spread_nonneg hN r
  obtain ⟨z, hz, hz'⟩ := eps_real
  rw [n512_real, ← quick_eq_layer hN]
  obtain ⟨r, rfl⟩ := real_row hr
  obtain ⟨g, rfl⟩ := real_row hg
  obtain ⟨e, rfl⟩ := real_row he
  obtain ⟨w, hw⟩ := real_row fun d => hW d k
  unfold folded hidden affine quick
  have hw' : ∀ d, W d k = (w d : EReal) := fun d => congrFun hw d
  simp only [hw']
  rw [spread_coe hN.ne'] at hv ⊢
  have hv' : 0 < (∑ k, (r k - (∑ d, r d) * (1 / 512)) * (r k - (∑ d, r d) * (1 / 512))) * (1 / 512)
      + z := add_pos_of_nonneg_of_pos (by exact_mod_cast hv) hz
  simp only [mean_coe hN.ne', hz', inv512_real, ← EReal.coe_mul, sum_coe, ← EReal.coe_add,
    ← EReal.coe_sub]
  rw [spread_split hN.ne' (by norm_num), rsqrt_coe hv']
  simp only [← EReal.coe_mul, sum_coe, ← EReal.coe_add, ← EReal.coe_sub, ← add_assoc]
  congr 3
  generalize (Real.sqrt _)⁻¹ = q
  generalize (∑ d, r d) * (1 / 512 : ℝ) = m
  rw [Finset.mul_sum, ← Finset.sum_sub_distrib, Finset.mul_sum, ← Finset.sum_add_distrib]
  exact Finset.sum_congr rfl fun d _ => by ring

/-- The four pair features against their weights: sharing the differences between the two rows
gives the same sum, for real numbers. -/
theorem link_eq {hi hj d d' s s' w0 w1 w2 w3 b : EReal} (h1 : IsReal hi) (h2 : IsReal hj)
    (h3 : IsReal d) (h4 : IsReal d') (h5 : IsReal s) (h6 : IsReal s') (h7 : IsReal w0)
    (h8 : IsReal w1) (h9 : IsReal w2) (h10 : IsReal w3) (h11 : IsReal b) :
    hi + (d * w0 + s * w2) + (hj - (d' * w0 + s' * w2) + b) + d * w1 * d' + s * w3 * s'
      = hi + hj + ((d - d') * w0 + d * d' * w1 + (s - s') * w2 + s * s' * w3) + b := by
  obtain ⟨hi, rfl⟩ := h1
  obtain ⟨hj, rfl⟩ := h2
  obtain ⟨d, rfl⟩ := h3
  obtain ⟨d', rfl⟩ := h4
  obtain ⟨s, rfl⟩ := h5
  obtain ⟨s', rfl⟩ := h6
  obtain ⟨w0, rfl⟩ := h7
  obtain ⟨w1, rfl⟩ := h8
  obtain ⟨w2, rfl⟩ := h9
  obtain ⟨w3, rfl⟩ := h10
  obtain ⟨b, rfl⟩ := h11
  simp only [← EReal.coe_mul, ← EReal.coe_add, ← EReal.coe_sub]
  congr 1
  ring

end Cert.Heads
end
-- ==== Proof.Finite.lean ====
module

public import proofs.«01_k».proof.Proof.Maths

/-! On finite inputs the pair kernel's rearranged arithmetic is the network's. -/

@[expose] public section
noncomputable section
open Idealize.ShloMosaic
namespace Cert.Heads

/-- Every input the pair representation's rearrangement touches is a real number. -/
structure Inputs.Finite (I : Inputs) : Prop where
  x : ∀ i d, IsReal (I.x i d)
  spw : ∀ d k, IsReal (I.spw d k)
  spb : ∀ k, IsReal (I.spb k)
  spg : ∀ k, IsReal (I.spg k)
  spe : ∀ k, IsReal (I.spe k)
  dw1 : ∀ d k, IsReal (I.dw1 d k)
  db1 : ∀ k, IsReal (I.db1 k)
  dw2 : ∀ k, IsReal (I.dw2 k)
  db2 : IsReal I.db2
  sw1 : ∀ d k, IsReal (I.sw1 d k)
  sb1 : ∀ k, IsReal (I.sb1 k)
  sw2 : ∀ k, IsReal (I.sw2 k)
  sb2 : IsReal I.sb2
  pw1 : ∀ d k, IsReal (I.pw1 d k)
  pb1 : ∀ k, IsReal (I.pb1 k)
  pg : ∀ k, IsReal (I.pg k)
  pe : ∀ k, IsReal (I.pe k)
  pw2 : ∀ d k, IsReal (I.pw2 d k)

namespace Inputs
variable (I : Inputs)

/-- A position's share of the pairs it comes first in, as the kernel prepares it. -/
def asFirst (i : Fin 384) (k : Fin 512) : EReal :=
  I.first i k + (I.dms i * I.pw1 1280 k + I.shape i * I.pw1 1282 k)

/-- A position's share of the pairs it comes second in, as the kernel prepares it. -/
def asSecond (j : Fin 384) (k : Fin 512) : EReal :=
  I.second j k - (I.dms j * I.pw1 1280 k + I.shape j * I.pw1 1282 k) + I.pb1 k

/-- The pair representation as the kernel computes it: two shares, two products, and a
normalisation folded into the layer after it. -/
def pairQuick (i j : Fin 384) : Fin 128 → EReal :=
  affine (folded
      (fun k => rect (I.asFirst i k + I.asSecond j k + I.dms i * I.pw1 1281 k * I.dms j
        + I.shape i * I.pw1 1283 k * I.shape j))
      (fun d k => I.pw2 d k * I.pg d) (fun k => ∑ d, I.pw2 d k * I.pg d)
      fun k => (∑ d, I.pe d * I.pw2 d k) + I.pb2 k) I.pw3 I.pb3

variable {I}

/-- The shared rows are real. -/
theorem Finite.shared (h : I.Finite) (i : Fin 384) (k : Fin 320) : IsReal (I.shared i k) := by
  unfold Inputs.shared
  rw [n320_real]
  exact layer_real (by norm_num) (hidden_real (h.x i) h.spw h.spb) h.spg h.spe k

/-- The first reactivities are real. -/
theorem Finite.dms (h : I.Finite) (i : Fin 384) : IsReal (I.dms i) :=
  head_real (h.shared i) h.dw1 h.db1 h.dw2 h.db2

/-- The second reactivities are real. -/
theorem Finite.shape (h : I.Finite) (i : Fin 384) : IsReal (I.shape i) :=
  head_real (h.shared i) h.sw1 h.sb1 h.sw2 h.sb2

/-- The products with the first block of the pair weights are real. -/
theorem Finite.first (h : I.Finite) (i : Fin 384) (k : Fin 512) : IsReal (I.first i k) :=
  IsReal.sum fun a => (h.x i a).mul (h.pw1 _ k)

/-- The products with the second block of the pair weights are real. -/
theorem Finite.second (h : I.Finite) (i : Fin 384) (k : Fin 512) : IsReal (I.second i k) :=
  IsReal.sum fun a => (h.x i a).mul (h.pw1 _ k)

/-- What the four pair features contribute is real. -/
theorem Finite.chem (h : I.Finite) (i j : Fin 384) (k : Fin 512) : IsReal (I.chem i j k) :=
  ((((h.dms i).sub (h.dms j)).mul (h.pw1 _ k)).add (((h.dms i).mul (h.dms j)).mul (h.pw1 _ k))
    |>.add (((h.shape i).sub (h.shape j)).mul (h.pw1 _ k))
    |>.add (((h.shape i).mul (h.shape j)).mul (h.pw1 _ k)))

/-- The first hidden rows of the pairs are real. -/
theorem Finite.link (h : I.Finite) (i j : Fin 384) (k : Fin 512) : IsReal (I.link i j k) :=
  ((((h.first i k).add (h.second j k)).add (h.chem i j k)).add (h.pb1 k)).rect

/-- The kernel's four terms make the first hidden row of a pair. -/
theorem Finite.link_quick (h : I.Finite) (i j : Fin 384) (k : Fin 512) :
    rect (I.asFirst i k + I.asSecond j k + I.dms i * I.pw1 1281 k * I.dms j
      + I.shape i * I.pw1 1283 k * I.shape j) = I.link i j k :=
  congrArg rect (link_eq (h.first i k) (h.second j k) (h.dms i) (h.dms j) (h.shape i) (h.shape j)
    (h.pw1 1280 k) (h.pw1 1281 k) (h.pw1 1282 k) (h.pw1 1283 k) (h.pb1 k))

/-- On finite inputs the kernel's pair representation is the network's. -/
theorem Finite.pair_quick (h : I.Finite) (i j : Fin 384) : I.pairQuick i j = I.pair i j := by
  unfold pairQuick Inputs.pair
  simp only [h.link_quick]
  congr 1
  funext k
  exact folded_eq I.pb2 (h.link i j) h.pg h.pe h.pw2 k

end Inputs

end Cert.Heads
end
-- ==== Proof.KernelValue.lean ====
module

public import proofs.«01_k».proof.Proof.Entry
public import proofs.«01_k».proof.Proof.Region0
public import proofs.«01_k».proof.Proof.Region1
public import proofs.«01_k».proof.Proof.Finite

/-! The kernel's four results, entry by entry, from the program's arguments. -/

@[expose] public section
set_option maxRecDepth 16384
noncomputable section
open Idealize.ShloMosaic Idealize.ShloMosaic.TcCoe Idealize.SL.Sem
namespace Cert.KernelIdeal.Value
open Cert.KernelIdeal Cert.KernelIdeal.Gen Cert.KernelIdeal.Launched Cert.Heads

variable (m : (ℓ : Loc nD τ sig) → Buf (Elt Ideal) ℓ) (ρ : Dev nD → PrngReg)

/-- The kernel's arguments as the network's inputs. -/
def inputs (c : Dev nD) : Inputs where
  x i d := m ((c : Thread nD τ).loc main_arg0) (ix3 0 i d)
  spw d k := m ((c : Thread nD τ).loc main_arg1) (ix2 d k)
  spb k := m ((c : Thread nD τ).loc main_arg2) (ix1 k)
  spg k := m ((c : Thread nD τ).loc main_arg3) (ix1 k)
  spe k := m ((c : Thread nD τ).loc main_arg4) (ix1 k)
  dw1 d k := m ((c : Thread nD τ).loc main_arg5) (ix2 d k)
  db1 k := m ((c : Thread nD τ).loc main_arg6) (ix1 k)
  dw2 k := m ((c : Thread nD τ).loc main_arg7) (ix2 k 0)
  db2 := m ((c : Thread nD τ).loc main_arg8) (ix1 0)
  sw1 d k := m ((c : Thread nD τ).loc main_arg9) (ix2 d k)
  sb1 k := m ((c : Thread nD τ).loc main_arg10) (ix1 k)
  sw2 k := m ((c : Thread nD τ).loc main_arg11) (ix2 k 0)
  sb2 := m ((c : Thread nD τ).loc main_arg12) (ix1 0)
  tw1 d k := m ((c : Thread nD τ).loc main_arg13) (ix2 d k)
  tb1 k := m ((c : Thread nD τ).loc main_arg14) (ix1 k)
  tg k := m ((c : Thread nD τ).loc main_arg15) (ix1 k)
  te k := m ((c : Thread nD τ).loc main_arg16) (ix1 k)
  tw2 d k := m ((c : Thread nD τ).loc main_arg17) (ix2 d k)
  tb2 k := m ((c : Thread nD τ).loc main_arg18) (ix1 k)
  pw1 d k := m ((c : Thread nD τ).loc main_arg19) (ix2 d k)
  pb1 k := m ((c : Thread nD τ).loc main_arg20) (ix1 k)
  pg k := m ((c : Thread nD τ).loc main_arg21) (ix1 k)
  pe k := m ((c : Thread nD τ).loc main_arg22) (ix1 k)
  pw2 d k := m ((c : Thread nD τ).loc main_arg23) (ix2 d k)
  pb2 k := m ((c : Thread nD τ).loc main_arg24) (ix1 k)
  pw3 d k := m ((c : Thread nD τ).loc main_arg25) (ix2 d k)
  pb3 k := m ((c : Thread nD τ).loc main_arg26) (ix1 k)

/-- A weight matrix the host leaves as it was. -/
theorem entry_arg (c : Dev nD) (a : Ref sig .tc) (h : a ∈ argRefs) :
    V3 m ρ c a = m ((c : Thread nD τ).loc a) := W3_args m ρ c a h

/-- The first reactivities the first launch computes. -/
theorem d_val (c : Dev nD) (i : Fin 384) : dOf (V3 m ρ) c (ix2 i 0) = (inputs m c).dms i := by
  obtain ⟨e0, e1, e2, e5, e6, e7, e8, e9, e10, e11, e12, e13, -⟩ := entry m ρ c
  refine (d_at _ _ _ _ _ _ _ _ _ i).trans ?_
  rw [n320_real, quick_eq_layer (by norm_num), ← n320_real]
  simp only [e0, e5, e6, e7, e8, e9, e10]
  rw [entry_arg m ρ c main_arg1 (by decide), entry_arg m ρ c main_arg5 (by decide)]
  rfl

/-- The second reactivities the first launch computes. -/
theorem s_val (c : Dev nD) (i : Fin 384) : sOf (V3 m ρ) c (ix2 i 0) = (inputs m c).shape i := by
  obtain ⟨e0, e1, e2, e5, e6, e7, e8, e9, e10, e11, e12, e13, -⟩ := entry m ρ c
  refine (s_at _ _ _ _ _ _ _ _ _ i).trans ?_
  rw [n320_real, quick_eq_layer (by norm_num), ← n320_real]
  simp only [e0, e5, e6, e7, e11, e12, e13]
  rw [entry_arg m ρ c main_arg1 (by decide), entry_arg m ρ c main_arg9 (by decide)]
  rfl

/-- The single representation. -/
theorem single_val (c : Dev nD) (i k : Fin 384) :
    W7 m ρ c (Proc.devRef .tc main_v22_0) (ix3 0 i k) = (inputs m c).single i k := by
  obtain ⟨e0, -, -, -, -, -, -, -, -, -, -, -, e14, e15, e16, e17, -⟩ := entry m ρ c
  have h : W7 m ρ c (Proc.devRef .tc main_v22_0) = _ :=
    (W7_of m ρ c main_v22_0 (by decide)).trans ((W6_of m ρ c main_v22_0 (by decide)).trans
      ((W5_of m ρ c main_v22_0 (by decide)).trans ((W4_arr m ρ c 27).trans (finals0 (V3 m ρ) c).1)))
  rw [h]
  refine (single_at _ _ _ _ _ _ _ i k).trans ?_
  rw [n512_real, quick_eq_layer (by norm_num), ← n512_real]
  simp only [e0, e14, e15, e16, e17]
  rw [entry_arg m ρ c main_arg13 (by decide), entry_arg m ρ c main_arg17 (by decide)]
  rfl

/-- The first reactivities, laid out as a row. -/
theorem dms_val (c : Dev nD) (i : Fin 384) :
    W7 m ρ c (Proc.devRef .tc main_v25) (ix2 0 i) = (inputs m c).dms i := by
  have h : W6 m ρ c (Proc.devRef .tc main_v22_1) = dOf (V3 m ρ) c :=
    (W6_of m ρ c main_v22_1 (by decide)).trans
      ((W5_of m ρ c main_v22_1 (by decide)).trans ((W4_arr m ρ c 28).trans (finals0 (V3 m ρ) c).2.1))
  rw [← d_val m ρ c i, ← h]
  dsimp only [W7, hostOps2]
  after_results
  pointwise

/-- The second reactivities, laid out as a row. -/
theorem shape_val (c : Dev nD) (i : Fin 384) :
    W7 m ρ c (Proc.devRef .tc main_v26) (ix2 0 i) = (inputs m c).shape i := by
  have h : W6 m ρ c (Proc.devRef .tc main_v22_2) = sOf (V3 m ρ) c :=
    (W6_of m ρ c main_v22_2 (by decide)).trans
      ((W5_of m ρ c main_v22_2 (by decide)).trans ((W4_arr m ρ c 29).trans (finals0 (V3 m ρ) c).2.2.1))
  rw [← s_val m ρ c i, ← h]
  dsimp only [W7, hostOps2]
  after_results
  pointwise

set_option maxHeartbeats 1000000 in
/-- What the second launch reads of the first one's arrays and of the host's, entry by entry. -/
theorem mid (c : Dev nD) :
    (∀ (i : Fin 384) (k : Fin 512), V5 m ρ c main_v22_3 (ix2 i k) = (inputs m c).asFirst i k)
    ∧ (∀ (i : Fin 384) (k : Fin 512), V5 m ρ c main_v22_4 (ix2 i k) = (inputs m c).asSecond i k)
    ∧ (∀ (i : Fin 384) (k : Fin 512), V5 m ρ c main_v22_5 (ix2 i k)
        = (inputs m c).dms i * (inputs m c).pw1 1281 k)
    ∧ (∀ (i : Fin 384) (k : Fin 512), V5 m ρ c main_v22_6 (ix2 i k)
        = (inputs m c).shape i * (inputs m c).pw1 1283 k)
    ∧ (∀ i : Fin 384, V5 m ρ c main_v22_7 (ix2 i 0) = (inputs m c).dms i)
    ∧ (∀ i : Fin 384, V5 m ρ c main_v22_7 (ix2 i 128) = (inputs m c).shape i)
    ∧ (∀ (d : Fin 512) (k : Fin 256), V5 m ρ c main_v22_8 (ix2 d k)
        = (inputs m c).pw2 d k * (inputs m c).pg d)
    ∧ (∀ k : Fin 256, V5 m ρ c main_v22_9 (ix2 0 k)
        = ∑ d, (inputs m c).pw2 d k * (inputs m c).pg d)
    ∧ (∀ k : Fin 256, V5 m ρ c main_v22_10 (ix2 0 k)
        = (∑ d, (inputs m c).pe d * (inputs m c).pw2 d k) + (inputs m c).pb2 k)
    ∧ (∀ k : Fin 128, V5 m ρ c main_v23 (ix2 0 k) = (inputs m c).pb3 k) := by
  obtain ⟨e0, e1, e2, -, -, -, -, -, -, -, -, -, -, -, -, -, e18, e19, e20, e21⟩ := entry m ρ c
  obtain ⟨-, -, -, f3, f4, f5, f6, f7, f8, f9, f10⟩ := finals0 (V3 m ρ) c
  have w := entry_wc m ρ c
  have h23 := entry_arg m ρ c main_arg23 (by decide)
  refine ⟨fun i k => ?_, fun i k => ?_, fun i k => ?_, fun i k => ?_, fun i => ?_, fun i => ?_,
    fun d k => ?_, fun k => ?_, fun k => ?_, fun k => ?_⟩
  · refine (congrFun ((W5_of m ρ c main_v22_3 (by decide)).trans ((W4_arr m ρ c 30).trans f3)) _).trans ?_
    refine (ai_at _ _ _ _ _ i k).trans ?_
    rw [d_val, s_val]
    simp only [e0, e1, (w k).1, (w k).2.2.1]
    rfl
  · refine (congrFun ((W5_of m ρ c main_v22_4 (by decide)).trans ((W4_arr m ρ c 31).trans f4)) _).trans ?_
    refine (bj_at _ _ _ _ _ _ i k).trans ?_
    rw [d_val, s_val]
    simp only [e0, e2, (w k).1, (w k).2.2.1, e18]
    rfl
  · refine (congrFun ((W5_of m ρ c main_v22_5 (by decide)).trans ((W4_arr m ρ c 32).trans f5)) _).trans ?_
    refine (d1_at _ _ i k).trans ?_
    rw [d_val, (w k).2.1]
    rfl
  · refine (congrFun ((W5_of m ρ c main_v22_6 (by decide)).trans ((W4_arr m ρ c 33).trans f6)) _).trans ?_
    refine (s1_at _ _ i k).trans ?_
    rw [s_val, (w k).2.2.2]
    rfl
  · refine (congrFun ((W5_of m ρ c main_v22_7 (by decide)).trans ((W4_arr m ρ c 34).trans f7)) _).trans ?_
    exact (dsc_left _ _ i).trans (d_val m ρ c i)
  · refine (congrFun ((W5_of m ρ c main_v22_7 (by decide)).trans ((W4_arr m ρ c 34).trans f7)) _).trans ?_
    exact (dsc_right _ _ i).trans (s_val m ρ c i)
  · refine (congrFun ((W5_of m ρ c main_v22_8 (by decide)).trans ((W4_arr m ρ c 35).trans f8)) _).trans ?_
    refine (w2a_at _ _ d k).trans ?_
    simp only [e19, h23]
    rfl
  · refine (congrFun ((W5_of m ρ c main_v22_9 (by decide)).trans ((W4_arr m ρ c 36).trans f9)) _).trans ?_
    refine (u_at _ _ k).trans ?_
    simp only [e19, h23]
    rfl
  · refine (congrFun ((W5_of m ρ c main_v22_10 (by decide)).trans ((W4_arr m ρ c 37).trans f10)) _).trans ?_
    refine (cw2_at _ _ _ k).trans ?_
    simp only [e20, e21, h23]
    rfl
  · have h : W4 m ρ c (Proc.devRef .tc main_arg26) = m ((c : Thread nD τ).loc main_arg26) :=
      W4_args m ρ c main_arg26 (by decide)
    refine Eq.trans ?_ (congrFun h (ix1 k))
    dsimp only [V5, W5, hostOps1]
    after_results
    pointwise

/-- One entry of the pair array. -/
theorem pairs_at (a d1 s1 bj : FVec Ideal S384x512 .bf16) (ds : FVec Ideal S384x256 .f32)
    (A : FVec Ideal S512x256 .bf16) (u cw : FVec Ideal S1x256 .f32) (w3 : FVec Ideal S256x128 .f32)
    (b3 : FVec Ideal S1x128 .f32) (i j : Fin 384) (k : Fin 128) :
    pairs a d1 s1 bj ds A u cw w3 b3 (ix4 0 i j k)
      = affine (folded
          (fun d => rect (a (ix2 i d) + bj (ix2 j d) + d1 (ix2 i d) * ds (ix2 j 0)
            + s1 (ix2 i d) * ds (ix2 j 128)))
          (fun d k => A (ix2 d k)) (fun k => u (ix2 0 k)) fun k => cw (ix2 0 k))
        (fun d k => w3 (ix2 d k)) (fun k => b3 (ix2 0 k)) k := rfl

/-- The pair representation as the kernel computes it. -/
theorem pair_val (c : Dev nD) (i j : Fin 384) (k : Fin 128) :
    W7 m ρ c (Proc.devRef .tc main_v24) (ix4 0 i j k) = (inputs m c).pairQuick i j k := by
  have h : W7 m ρ c (Proc.devRef .tc main_v24) = _ :=
    (W7_of m ρ c main_v24 (by decide)).trans ((W6_arr m ρ c 10).trans (final_pair (V5 m ρ) c))
  obtain ⟨g3, g4, g5, g6, g7, g7', g8, g9, g10, g23⟩ := mid m ρ c
  have h25 : V5 m ρ c main_arg25 = m ((c : Thread nD τ).loc main_arg25) :=
    W5_args m ρ c main_arg25 (by decide)
  rw [h]
  refine (pairs_at _ _ _ _ _ _ _ _ _ _ i j k).trans ?_
  simp only [g3, g4, g5, g6, g7, g7', g8, g9, g10, g23, h25]
  rfl

/-- Every run of the kernel ends with the network's four results, the pair representation in the
kernel's own arrangement. -/
theorem results : θ_run defs (onTc (τ := τ) (main (F := Ideal))) ⟨m, fun _ => 0, ρ⟩ fun r =>
    ∀ c : Dev nD,
      (∀ i k, r.2.mem ((c : Thread nD τ).loc main_v22_0) (ix3 0 i k) = (inputs m c).single i k)
      ∧ (∀ i j k, r.2.mem ((c : Thread nD τ).loc main_v24) (ix4 0 i j k)
        = (inputs m c).pairQuick i j k)
      ∧ (∀ i, r.2.mem ((c : Thread nD τ).loc main_v25) (ix2 0 i) = (inputs m c).dms i)
      ∧ (∀ i, r.2.mem ((c : Thread nD τ).loc main_v26) (ix2 0 i) = (inputs m c).shape i) := by
  refine (θ_run defs _ _).mono ?_ (run m ρ)
  intro r h c
  exact ⟨fun i k => (congrFun (h.1 c _ (mem_uc main_v22_0 (by decide))) _).trans (single_val m ρ c i k),
    fun i j k => (congrFun (h.1 c _ (mem_uc main_v24 (by decide))) _).trans (pair_val m ρ c i j k),
    fun i => (congrFun (h.1 c _ (mem_uc main_v25 (by decide))) _).trans (dms_val m ρ c i),
    fun i => (congrFun (h.1 c _ (mem_uc main_v26 (by decide))) _).trans (shape_val m ρ c i)⟩

end Cert.KernelIdeal.Value
end
-- ==== Proof.Condition.lean ====
module

public import proofs.«01_k».proof.Defs
public import proofs.«01_k».proof.Proof.KernelValue

/-! The precondition, read: every entry it constrains is a real number. -/

@[expose] public section
set_option maxRecDepth 16384
noncomputable section
open Idealize.ShloMosaic Idealize.ShloMosaic.TcCoe Idealize.SL.Sem
namespace Cert.Proof
open Cert.Heads

/-- The shape relations of the precondition. -/
theorem condition_facts : Cert.Pre_finite_inputs.Facts where
  bcast_S_S1x384x640 := by decide
  bcast_S_S640x320 := by decide
  bcast_S_S320 := by decide
  bcast_S_S320x160 := by decide
  bcast_S_S160 := by decide
  bcast_S_S160x1 := by decide
  bcast_S_S1 := by decide
  bcast_S_S1284x512 := by decide
  bcast_S_S512 := by decide
  bcast_S_S512x256 := by decide

/-- The shape relations of the mask. -/
theorem mask_facts : Cert.On_heads.Facts where
  bcast_S_S1x384x384 := by decide
  bcast_S_S1x384x384x128 := by decide
  bcast_S_S1x384 := by decide

attribute [local instance] condition_facts mask_facts

/-- A number whose absolute value is under infinity is real. -/
theorem real_of_abs_lt {x : EReal} (h : max x (-x) < ⊤) : IsReal x := by
  induction x with
  | bot => simp at h
  | top => simp at h
  | coe r => exact ⟨r, rfl⟩

/-- An array's comparison with infinity, read at an index where it holds. -/
theorem real_of_small {s : Shape} (x : FVec Ideal s .f32)
    (hb : Cert.Pre_finite_inputs.S_.BroadcastsInDim s (![] : Fin 0 → Fin s.rank)) (i : s.Idx)
    (h : cmpf .olt (Host.absf x) (broadcastInDim s ![] hb
      (constant Cert.Pre_finite_inputs.S_ .f32 0x7F800000#32)) i = 1#1) : IsReal (x i) := by
  revert h
  pointwise
  rw [show Ideal.ofBits FTy.f32 2139095040#32 = ⊤ by simp [Ideal.ofBits, Ideal.ieee]]
  intro h
  refine real_of_abs_lt ?_
  by_contra hn
  have h' : BitVec.ofBool (decide (max (x i) (-x i) < ⊤)) = 1#1 := h
  rw [decide_eq_false hn] at h'
  exact absurd h' (by decide)

/-- A conjunction of two truth arrays holds where both do. -/
theorem both {s : Shape} {a b : IVec s 1} {i : s.Idx} (h : andi a b i = 1#1) :
    a i = 1#1 ∧ b i = 1#1 := by
  revert h
  pointwise
  generalize a i = p
  generalize b i = q
  revert p q
  decide

/-- Under the precondition the inputs are finite. -/
theorem finite_of_pre
    {m : (ℓ : Loc Cert.KernelIdeal.nD Cert.KernelIdeal.τ Cert.KernelIdeal.sig) → Buf (Elt Ideal) ℓ}
    (h : Cert.Pre_KernelIdeal_finite_inputs m) (c : Dev Cert.KernelIdeal.nD) :
    (KernelIdeal.Value.inputs m c).Finite := by
  have h := h c
  dsimp only [Pre_finite_inputs.fn, Pre_finite_inputs.fn_part1, Pre_finite_inputs.fn_part2,
    Pre_finite_inputs.fn_part3] at h
  obtain ⟨hx, hw, hbge, h1, h2, h3, h4, h5, h6, h7⟩ := h
  have at' {s : Shape} {a : IVec s 1} (e : a = fun _ => 1#1) (i : s.Idx) : a i = 1#1 := congrFun e i
  exact
    { x := fun i d => real_of_small _ _ _ (at' hx (ix3 0 i d))
      spw := fun d k => real_of_small _ _ _ (at' hw (ix2 d k))
      spb := fun k => real_of_small _ _ _ (both (both (at' hbge (ix1 k))).1).1
      spg := fun k => real_of_small _ _ _ (both (both (at' hbge (ix1 k))).1).2
      spe := fun k => real_of_small _ _ _ (both (at' hbge (ix1 k))).2
      dw1 := fun d k => real_of_small _ _ _ (both (at' h1 (ix2 d k))).1
      db1 := fun k => real_of_small _ _ _ (both (at' h2 (ix1 k))).1
      dw2 := fun k => real_of_small _ _ _ (both (at' h3 (ix2 k 0))).1
      db2 := real_of_small _ _ _ (both (at' h4 (ix1 0))).1
      sw1 := fun d k => real_of_small _ _ _ (both (at' h1 (ix2 d k))).2
      sb1 := fun k => real_of_small _ _ _ (both (at' h2 (ix1 k))).2
      sw2 := fun k => real_of_small _ _ _ (both (at' h3 (ix2 k 0))).2
      sb2 := real_of_small _ _ _ (both (at' h4 (ix1 0))).2
      pw1 := fun d k => real_of_small _ _ _ (at' h5 (ix2 d k))
      pb1 := fun k => real_of_small _ _ _ (both (both (at' h6 (ix1 k))).1).1
      pg := fun k => real_of_small _ _ _ (both (both (at' h6 (ix1 k))).1).2
      pe := fun k => real_of_small _ _ _ (both (at' h6 (ix1 k))).2
      pw2 := fun d k => real_of_small _ _ _ (at' h7 (ix2 d k)) }

end Cert.Proof
end
-- ==== Proof.Frames.lean ====
/- The frames of the three programs. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.KernelRun
public import Idealize.ShloMosaic.Lib.Pipeline.Regions

@[expose] public section

set_option maxRecDepth 16384

noncomputable section

namespace Cert.Proof

open Idealize.ShloMosaic Idealize.SL.Sem

/-- The kernel over words and the kernel over the extended reals are one printed program in two namespaces, so the first
    one's frame is the frame statement of the second at the word instance. -/
theorem framed_eq :
    @Cert.quiescent_Kernel Cert.Kernel.Gen.facts = Cert.KernelIdeal.Launched.Framed Bits := by
  chain_rfl

/-- The frame of the kernel over words. -/
theorem kernel_frame : @Cert.quiescent_Kernel Cert.Kernel.Gen.facts :=
  framed_eq.mpr Cert.KernelIdeal.Launched.frame

/-- The frame of the kernel over the extended reals. -/
theorem ideal_frame : @Cert.quiescent_KernelIdeal Cert.KernelIdeal.Gen.facts :=
  fun m g _ => Cert.KernelIdeal.Launched.frame m g trivial

/-- The frame of the reference: it runs host operations only, which write none of its arguments, and has no semaphore. -/
theorem reference_frame : @Cert.quiescent_ReferenceIdeal Cert.ReferenceIdeal.Gen.facts := fun m g _ =>
  (θ_run Cert.ReferenceIdeal.defs _ _).mono
    (fun r h => ⟨fun c => (h c).2.2.2.2, Idealize.ShloMosaic.sem_eq_zero_of_no_sems (by decide) r.2⟩)
    (Cert.ReferenceIdeal.Value.run m g)

end Cert.Proof

end
-- ==== Proof.ReferenceRead.lean ====
module

public import proofs.«01_k».proof.Proof.Maths
public import proofs.«01_k».proof.Proof.Gen.ReferenceIdeal.Run
public import Idealize.ShloMosaic.Lib.Pointwise

/-! The reference's four results are the network's, entry by entry. -/

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Heads

/-- The reference's arguments as the network's inputs. -/
def inputs (V : Valuation τ sig (Elt Ideal)) : Inputs where
  x i d := V (Proc.devRef .tc main_arg0) (ix3 0 i d)
  spw d k := V (Proc.devRef .tc main_arg1) (ix2 d k)
  spb k := V (Proc.devRef .tc main_arg2) (ix1 k)
  spg k := V (Proc.devRef .tc main_arg3) (ix1 k)
  spe k := V (Proc.devRef .tc main_arg4) (ix1 k)
  dw1 d k := V (Proc.devRef .tc main_arg5) (ix2 d k)
  db1 k := V (Proc.devRef .tc main_arg6) (ix1 k)
  dw2 k := V (Proc.devRef .tc main_arg7) (ix2 k 0)
  db2 := V (Proc.devRef .tc main_arg8) (ix1 0)
  sw1 d k := V (Proc.devRef .tc main_arg9) (ix2 d k)
  sb1 k := V (Proc.devRef .tc main_arg10) (ix1 k)
  sw2 k := V (Proc.devRef .tc main_arg11) (ix2 k 0)
  sb2 := V (Proc.devRef .tc main_arg12) (ix1 0)
  tw1 d k := V (Proc.devRef .tc main_arg13) (ix2 d k)
  tb1 k := V (Proc.devRef .tc main_arg14) (ix1 k)
  tg k := V (Proc.devRef .tc main_arg15) (ix1 k)
  te k := V (Proc.devRef .tc main_arg16) (ix1 k)
  tw2 d k := V (Proc.devRef .tc main_arg17) (ix2 d k)
  tb2 k := V (Proc.devRef .tc main_arg18) (ix1 k)
  pw1 d k := V (Proc.devRef .tc main_arg19) (ix2 d k)
  pb1 k := V (Proc.devRef .tc main_arg20) (ix1 k)
  pg k := V (Proc.devRef .tc main_arg21) (ix1 k)
  pe k := V (Proc.devRef .tc main_arg22) (ix1 k)
  pw2 d k := V (Proc.devRef .tc main_arg23) (ix2 d k)
  pb2 k := V (Proc.devRef .tc main_arg24) (ix1 k)
  pw3 d k := V (Proc.devRef .tc main_arg25) (ix2 d k)
  pb3 k := V (Proc.devRef .tc main_arg26) (ix1 k)

/-- The number of degrees of freedom the reference subtracts is zero. -/
theorem no_correction : FloatOps.sitofp (F := Ideal) .f32 (0#32) = (0 : EReal) := by
  show (((0#32 : BitVec 32).toInt : ℝ) : EReal) = 0
  simp

/-- The reference's guard on a width is passed, and the guarded quotient is the plain one. -/
theorem guard_pass {N : EReal} (hN : 0 < N) (a z : EReal) :
    (if 0 < N - FloatOps.sitofp (F := Ideal) .f32 (0#32)
      then Ideal.div a (N - FloatOps.sitofp (F := Ideal) .f32 (0#32)) else z) = Ideal.div a N := by
  rw [no_correction, sub_zero, if_pos hN]

variable (V : Valuation τ sig (Elt Ideal))

/-- The shared rows. -/
theorem shared_eq (i : Fin 384) (k : Fin 320) :
    res_main_v22 (F := Ideal) V (ix3 0 i k) = (inputs V).shared i k := by
  pointwise [res_main_v22, res_main_v4, res_main_call1_v5, res_main_call1_v8]
  rw [guard_pass (N := Ideal.ofBits .f32 1134559232#32) n320_pos]
  rfl

/-- The first reactivities. -/
theorem dms_eq (i : Fin 384) :
    res_main_v32 (F := Ideal) V (ix2 0 i) = (inputs V).dms i := by
  pointwise [res_main_v32]
  simp only [shared_eq]
  rfl

/-- The second reactivities. -/
theorem shape_eq (i : Fin 384) :
    res_main_v42 (F := Ideal) V (ix2 0 i) = (inputs V).shape i := by
  pointwise [res_main_v42]
  simp only [shared_eq]
  rfl

/-- The first hidden rows of the pairs: the stacked features are summed one by one. -/
theorem link_eq (i j : Fin 384) (k : Fin 512) :
    res_main_v110 (F := Ideal) V (ix4 0 i j k) = (inputs V).link i j k := by
  pointwise [res_main_v110]
  simp only [dms_eq, shape_eq]
  rw [Fin.sum_univ_four]
  rfl

/-- Every run of the reference ends with the network's four results. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i k, r.2.mem ((c.tc : Thread nD τ).loc main_v69) (ix3 0 i k)
        = (inputs (StableHlo.launchContents m c)).single i k)
      ∧ (∀ i j k, r.2.mem ((c.tc : Thread nD τ).loc main_v137) (ix4 0 i j k)
        = (inputs (StableHlo.launchContents m c)).pair i j k)
      ∧ (∀ i, r.2.mem ((c.tc : Thread nD τ).loc main_v32) (ix2 0 i)
        = (inputs (StableHlo.launchContents m c)).dms i)
      ∧ (∀ i, r.2.mem ((c.tc : Thread nD τ).loc main_v42) (ix2 0 i)
        = (inputs (StableHlo.launchContents m c)).shape i) := by
  refine (θ_run defs _ _).mono ?_ (run m ρ)
  intro r h c
  obtain ⟨h1, h2, h3, h4, -⟩ := h c
  refine ⟨fun i k => ?_, fun i j k => ?_, fun i => ?_, fun i => ?_⟩
  · rw [h1]
    pointwise [res_main_v47, res_main_call5_v5, res_main_call5_v8]
    rw [guard_pass (N := Ideal.ofBits .f32 1140850688#32) n512_pos]
    rfl
  · rw [h2]
    pointwise [res_main_call7_v5, res_main_call7_v8]
    simp only [link_eq]
    rw [guard_pass (N := Ideal.ofBits .f32 1140850688#32) n512_pos]
    rfl
  · rw [h3, dms_eq]
  · rw [h4, shape_eq]

end Cert.ReferenceIdeal.Value
end
-- ==== Proof.Agree.lean ====
module

public import proofs.«01_k».proof.Proof.Condition
public import proofs.«01_k».proof.Proof.Frames
public import proofs.«01_k».proof.Proof.ReferenceRead

/-! The idealized kernel and the idealized reference agree. -/

@[expose] public section
set_option maxRecDepth 16384
noncomputable section
open Idealize.ShloMosaic Idealize.ShloMosaic.TcCoe Idealize.SL.Sem
namespace Cert.Proof
open Cert.Heads

attribute [local instance] condition_facts mask_facts

/-- The single representations, laid out as an array. -/
def singleArray (I : Inputs) : FVec Ideal ⟨3, ![1, 384, 384]⟩ .f32 := fun y => I.single (y 1) (y 2)
/-- The pair representations, laid out as an array. -/
def pairArray (I : Inputs) : FVec Ideal ⟨4, ![1, 384, 384, 128]⟩ .f32 :=
  fun y => I.pair (y 1) (y 2) (y 3)
/-- The first reactivities, laid out as an array. -/
def dmsArray (I : Inputs) : FVec Ideal ⟨2, ![1, 384]⟩ .f32 := fun y => I.dms (y 1)
/-- The second reactivities, laid out as an array. -/
def shapeArray (I : Inputs) : FVec Ideal ⟨2, ![1, 384]⟩ .f32 := fun y => I.shape (y 1)

/-- Two arrays of one row are equal when their entries are. -/
theorem ext2 {β : Type} {f g : (⟨2, ![1, 384]⟩ : Shape).Idx → β}
    (h : ∀ i : Fin 384, f (ix2 0 i) = g (ix2 0 i)) : f = g := by
  funext y
  idx_vars y
  obtain rfl : y0 = 0 := Subsingleton.elim _ _
  exact h y1

/-- The same of one matrix. -/
theorem ext3 {β : Type} {f g : (⟨3, ![1, 384, 384]⟩ : Shape).Idx → β}
    (h : ∀ i k : Fin 384, f (ix3 0 i k) = g (ix3 0 i k)) : f = g := by
  funext y
  idx_vars y
  obtain rfl : y0 = 0 := Subsingleton.elim _ _
  exact h y1 y2

/-- The same of one matrix of rows. -/
theorem ext4 {β : Type} {f g : (⟨4, ![1, 384, 384, 128]⟩ : Shape).Idx → β}
    (h : ∀ (i j : Fin 384) (k : Fin 128), f (ix4 0 i j k) = g (ix4 0 i j k)) : f = g := by
  funext y
  idx_vars y
  obtain rfl : y0 = 0 := Subsingleton.elim _ _
  exact h y1 y2 y3

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ}

variable (m m') in
/-- Both memories hold the same arguments on a device. -/
def SameArguments (c : Dev KernelIdeal.nD) : Prop :=
    m' ((c.tc : Thread ReferenceIdeal.nD ReferenceIdeal.τ).loc ReferenceIdeal.main_arg0)
      = m ((c.tc : Thread KernelIdeal.nD KernelIdeal.τ).loc KernelIdeal.main_arg0)
    ∧ m' ((c.tc : Thread ReferenceIdeal.nD ReferenceIdeal.τ).loc ReferenceIdeal.main_arg1)
      = m ((c.tc : Thread KernelIdeal.nD KernelIdeal.τ).loc KernelIdeal.main_arg1)
    ∧ m' ((c.tc : Thread ReferenceIdeal.nD ReferenceIdeal.τ).loc ReferenceIdeal.main_arg2)
      = m ((c.tc : Thread KernelIdeal.nD KernelIdeal.τ).loc KernelIdeal.main_arg2)
    ∧ m' ((c.tc : Thread ReferenceIdeal.nD ReferenceIdeal.τ).loc ReferenceIdeal.main_arg3)
      = m ((c.tc : Thread KernelIdeal.nD KernelIdeal.τ).loc KernelIdeal.main_arg3)
    ∧ m' ((c.tc : Thread ReferenceIdeal.nD ReferenceIdeal.τ).loc ReferenceIdeal.main_arg4)
      = m ((c.tc : Thread KernelIdeal.nD KernelIdeal.τ).loc KernelIdeal.main_arg4)
    ∧ m' ((c.tc : Thread ReferenceIdeal.nD ReferenceIdeal.τ).loc ReferenceIdeal.main_arg5)
      = m ((c.tc : Thread KernelIdeal.nD KernelIdeal.τ).loc KernelIdeal.main_arg5)
    ∧ m' ((c.tc : Thread ReferenceIdeal.nD ReferenceIdeal.τ).loc ReferenceIdeal.main_arg6)
      = m ((c.tc : Thread KernelIdeal.nD KernelIdeal.τ).loc KernelIdeal.main_arg6)
    ∧ m' ((c.tc : Thread ReferenceIdeal.nD ReferenceIdeal.τ).loc ReferenceIdeal.main_arg7)
      = m ((c.tc : Thread KernelIdeal.nD KernelIdeal.τ).loc KernelIdeal.main_arg7)
    ∧ m' ((c.tc : Thread ReferenceIdeal.nD ReferenceIdeal.τ).loc ReferenceIdeal.main_arg8)
      = m ((c.tc : Thread KernelIdeal.nD KernelIdeal.τ).loc KernelIdeal.main_arg8)
    ∧ m' ((c.tc : Thread ReferenceIdeal.nD ReferenceIdeal.τ).loc ReferenceIdeal.main_arg9)
      = m ((c.tc : Thread KernelIdeal.nD KernelIdeal.τ).loc KernelIdeal.main_arg9)
    ∧ m' ((c.tc : Thread ReferenceIdeal.nD ReferenceIdeal.τ).loc ReferenceIdeal.main_arg10)
      = m ((c.tc : Thread KernelIdeal.nD KernelIdeal.τ).loc KernelIdeal.main_arg10)
    ∧ m' ((c.tc : Thread ReferenceIdeal.nD ReferenceIdeal.τ).loc ReferenceIdeal.main_arg11)
      = m ((c.tc : Thread KernelIdeal.nD KernelIdeal.τ).loc KernelIdeal.main_arg11)
    ∧ m' ((c.tc : Thread ReferenceIdeal.nD ReferenceIdeal.τ).loc ReferenceIdeal.main_arg12)
      = m ((c.tc : Thread KernelIdeal.nD KernelIdeal.τ).loc KernelIdeal.main_arg12)
    ∧ m' ((c.tc : Thread ReferenceIdeal.nD ReferenceIdeal.τ).loc ReferenceIdeal.main_arg13)
      = m ((c.tc : Thread KernelIdeal.nD KernelIdeal.τ).loc KernelIdeal.main_arg13)
    ∧ m' ((c.tc : Thread ReferenceIdeal.nD ReferenceIdeal.τ).loc ReferenceIdeal.main_arg14)
      = m ((c.tc : Thread KernelIdeal.nD KernelIdeal.τ).loc KernelIdeal.main_arg14)
    ∧ m' ((c.tc : Thread ReferenceIdeal.nD ReferenceIdeal.τ).loc ReferenceIdeal.main_arg15)
      = m ((c.tc : Thread KernelIdeal.nD KernelIdeal.τ).loc KernelIdeal.main_arg15)
    ∧ m' ((c.tc : Thread ReferenceIdeal.nD ReferenceIdeal.τ).loc ReferenceIdeal.main_arg16)
      = m ((c.tc : Thread KernelIdeal.nD KernelIdeal.τ).loc KernelIdeal.main_arg16)
    ∧ m' ((c.tc : Thread ReferenceIdeal.nD ReferenceIdeal.τ).loc ReferenceIdeal.main_arg17)
      = m ((c.tc : Thread KernelIdeal.nD KernelIdeal.τ).loc KernelIdeal.main_arg17)
    ∧ m' ((c.tc : Thread ReferenceIdeal.nD ReferenceIdeal.τ).loc ReferenceIdeal.main_arg18)
      = m ((c.tc : Thread KernelIdeal.nD KernelIdeal.τ).loc KernelIdeal.main_arg18)
    ∧ m' ((c.tc : Thread ReferenceIdeal.nD ReferenceIdeal.τ).loc ReferenceIdeal.main_arg19)
      = m ((c.tc : Thread KernelIdeal.nD KernelIdeal.τ).loc KernelIdeal.main_arg19)
    ∧ m' ((c.tc : Thread ReferenceIdeal.nD ReferenceIdeal.τ).loc ReferenceIdeal.main_arg20)
      = m ((c.tc : Thread KernelIdeal.nD KernelIdeal.τ).loc KernelIdeal.main_arg20)
    ∧ m' ((c.tc : Thread ReferenceIdeal.nD ReferenceIdeal.τ).loc ReferenceIdeal.main_arg21)
      = m ((c.tc : Thread KernelIdeal.nD KernelIdeal.τ).loc KernelIdeal.main_arg21)
    ∧ m' ((c.tc : Thread ReferenceIdeal.nD ReferenceIdeal.τ).loc ReferenceIdeal.main_arg22)
      = m ((c.tc : Thread KernelIdeal.nD KernelIdeal.τ).loc KernelIdeal.main_arg22)
    ∧ m' ((c.tc : Thread ReferenceIdeal.nD ReferenceIdeal.τ).loc ReferenceIdeal.main_arg23)
      = m ((c.tc : Thread KernelIdeal.nD KernelIdeal.τ).loc KernelIdeal.main_arg23)
    ∧ m' ((c.tc : Thread ReferenceIdeal.nD ReferenceIdeal.τ).loc ReferenceIdeal.main_arg24)
      = m ((c.tc : Thread KernelIdeal.nD KernelIdeal.τ).loc KernelIdeal.main_arg24)
    ∧ m' ((c.tc : Thread ReferenceIdeal.nD ReferenceIdeal.τ).loc ReferenceIdeal.main_arg25)
      = m ((c.tc : Thread KernelIdeal.nD KernelIdeal.τ).loc KernelIdeal.main_arg25)
    ∧ m' ((c.tc : Thread ReferenceIdeal.nD ReferenceIdeal.τ).loc ReferenceIdeal.main_arg26)
      = m ((c.tc : Thread KernelIdeal.nD KernelIdeal.τ).loc KernelIdeal.main_arg26)

/-- Memories that hold the same arguments hold the same inputs of the network. -/
theorem SameArguments.inputs {c : Dev KernelIdeal.nD} (h : SameArguments m m' c) :
    ReferenceIdeal.Value.inputs (StableHlo.launchContents m' c) = KernelIdeal.Value.inputs m c := by
  obtain ⟨e0, e1, e2, e3, e4, e5, e6, e7, e8, e9, e10, e11, e12, e13, e14, e15, e16, e17, e18, e19,
    e20, e21, e22, e23, e24, e25, e26⟩ := h
  simp only [KernelIdeal.Value.inputs, ← e0, ← e1, ← e2, ← e3, ← e4, ← e5, ← e6, ← e7, ← e8, ← e9, ← e10, ←
    e11, ← e12, ← e13, ← e14, ← e15, ← e16, ← e17, ← e18, ← e19, ←
    e20, ← e21, ← e22, ← e23, ← e24, ← e25, ← e26]
  rfl

/-- The agreement on finite inputs, all four results. -/
theorem agree_finite : Cert.algebraic_KernelIdeal_ReferenceIdeal_pre_finite_inputs := by
  intro m g m' g' hp ha
  refine ⟨fun c => singleArray (KernelIdeal.Value.inputs m c),
    fun c => pairArray (KernelIdeal.Value.inputs m c), fun c => dmsArray (KernelIdeal.Value.inputs m c),
    fun c => shapeArray (KernelIdeal.Value.inputs m c), ?_, ?_⟩
  · refine (θ_run _ _ _).mono (fun r h c => ?_)
      (θ_run_and (KernelIdeal.Value.results m g) (ideal_frame m g trivial))
    obtain ⟨h1, h2, h3, h4⟩ := h.1 c
    exact ⟨ext3 h1, ext4 fun i j k => (h2 i j k).trans
      (congrFun ((finite_of_pre hp c).pair_quick i j) k), ext2 h3, ext2 h4, h.2.1 c⟩
  · refine (θ_run _ _ _).mono (fun r h c => ?_)
      (θ_run_and (ReferenceIdeal.Value.results m' g') (reference_frame m' g' trivial))
    obtain ⟨h1, h2, h3, h4⟩ := h.1 c
    rw [SameArguments.inputs (ha c)] at h1 h2 h3 h4
    exact ⟨ext3 h1, ext4 h2, ext2 h3, ext2 h4, h.2.1 c⟩

/-- The mask selects nothing of the pair result. -/
theorem mask_pair {P : Prop} (h : (0#1 : BitVec 1) = 1#1) : P := absurd h (by decide)

/-- The agreement on all inputs, of the three results the mask selects. -/
theorem agree_heads : Cert.algebraic_KernelIdeal_ReferenceIdeal_on_heads := by
  intro m g m' g' hp ha
  refine ⟨fun c => singleArray (KernelIdeal.Value.inputs m c),
    fun c => pairArray (KernelIdeal.Value.inputs m c), fun c => dmsArray (KernelIdeal.Value.inputs m c),
    fun c => shapeArray (KernelIdeal.Value.inputs m c), ?_, ?_⟩
  · refine (θ_run _ _ _).mono (fun r h c => ?_)
      (θ_run_and (KernelIdeal.Value.results m g) (ideal_frame m g trivial))
    obtain ⟨h1, -, h3, h4⟩ := h.1 c
    exact ⟨fun y _ => congrFun (ext3 h1) y, fun y hy => mask_pair hy,
      fun y _ => congrFun (ext2 h3) y, fun y _ => congrFun (ext2 h4) y, h.2.1 c⟩
  · refine (θ_run _ _ _).mono (fun r h c => ?_)
      (θ_run_and (ReferenceIdeal.Value.results m' g') (reference_frame m' g' trivial))
    obtain ⟨h1, -, h3, h4⟩ := h.1 c
    rw [SameArguments.inputs (ha c)] at h1 h3 h4
    exact ⟨fun y _ => congrFun (ext3 h1) y, fun y hy => mask_pair hy,
      fun y _ => congrFun (ext2 h3) y, fun y _ => congrFun (ext2 h4) y, h.2.1 c⟩

end Cert.Proof
end
-- ==== Proof.lean ====
module

public import proofs.«01_k».proof.Defs
public import proofs.«01_k».proof.Proof.Agree

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, condition_facts,
    mask_facts, kernel_frame, ideal_frame, fun m g _ => ideal_frame m g trivial, reference_frame,
    fun m g _ => reference_frame m g trivial, trivial, agree_finite, agree_heads⟩

end Cert.Proof

end
